-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3584 : Shape := ⟨3, ![2, 128, 3584]⟩
abbrev S3584x2368 : Shape := ⟨2, ![3584, 2368]⟩
abbrev S28x18944 : Shape := ⟨2, ![28, 18944]⟩
abbrev S256x224x2x8 : Shape := ⟨4, ![256, 224, 2, 8]⟩
abbrev S256x224x8x2 : Shape := ⟨4, ![256, 224, 8, 2]⟩
abbrev S256x3584 : Shape := ⟨2, ![256, 3584]⟩
abbrev S28x2368x8 : Shape := ⟨3, ![28, 2368, 8]⟩
abbrev S8x28x2368 : Shape := ⟨3, ![8, 28, 2368]⟩
abbrev S8x256x2368 : Shape := ⟨3, ![8, 256, 2368]⟩
abbrev S3584x128 : Shape := ⟨2, ![3584, 128]⟩
abbrev S8x28x128 : Shape := ⟨3, ![8, 28, 128]⟩
abbrev S8x256x128 : Shape := ⟨3, ![8, 256, 128]⟩
abbrev S1x28x128 : Shape := ⟨3, ![1, 28, 128]⟩
abbrev S28x128 : Shape := ⟨2, ![28, 128]⟩
abbrev S224x2x8x128 : Shape := ⟨4, ![224, 2, 8, 128]⟩
abbrev S224x1x8x128 : Shape := ⟨4, ![224, 1, 8, 128]⟩
abbrev S224x8x128 : Shape := ⟨3, ![224, 8, 128]⟩
abbrev S1792x128 : Shape := ⟨2, ![1792, 128]⟩
abbrev S28x128x128 : Shape := ⟨3, ![28, 128, 128]⟩
abbrev S28x1x128 : Shape := ⟨3, ![28, 1, 128]⟩
abbrev S3584x256 : Shape := ⟨2, ![3584, 256]⟩
abbrev S256x256 : Shape := ⟨2, ![256, 256]⟩
abbrev S256x128 : Shape := ⟨2, ![256, 128]⟩
abbrev S1x256x128 : Shape := ⟨3, ![1, 256, 128]⟩
abbrev S256x2368x8 : Shape := ⟨3, ![256, 2368, 8]⟩
abbrev S2x128x18944 : Shape := ⟨3, ![2, 128, 18944]⟩

abbrev nBuf : Space → Nat
  | .hbm => 15
  | .vmem => 11
  | .smem => 0
  | _ => 0

abbrev bufTy : (tb : Table) → Fin (tcTables nBuf tb) → BufTy
  | .hbm, ⟨0, _⟩ => ⟨S2x128x3584, .bf16⟩
  | .hbm, ⟨1, _⟩ => ⟨S3584x2368, .i32⟩
  | .hbm, ⟨2, _⟩ => ⟨S28x18944, .bf16⟩
  | .hbm, ⟨3, _⟩ => ⟨S3584x2368, .i32⟩
  | .hbm, ⟨4, _⟩ => ⟨S28x18944, .bf16⟩
  | .hbm, ⟨5, _⟩ => ⟨S256x224x2x8, .bf16⟩
  | .hbm, ⟨6, _⟩ => ⟨S256x224x8x2, .bf16⟩
  | .hbm, ⟨7, _⟩ => ⟨S256x3584, .bf16⟩
  | .hbm, ⟨8, _⟩ => ⟨S28x2368x8, .bf16⟩
  | .hbm, ⟨9, _⟩ => ⟨S8x28x2368, .bf16⟩
  | .hbm, ⟨10, _⟩ => ⟨S28x2368x8, .bf16⟩
  | .hbm, ⟨11, _⟩ => ⟨S8x28x2368, .bf16⟩
  | .hbm, ⟨12, _⟩ => ⟨S8x256x2368, .bf16⟩
  | .hbm, ⟨13, _⟩ => ⟨S256x2368x8, .bf16⟩
  | .hbm, ⟨14, _⟩ => ⟨S2x128x18944, .bf16⟩
  | .local _ .vmem, ⟨0, _⟩ => ⟨S256x3584, .bf16⟩
  | .local _ .vmem, ⟨1, _⟩ => ⟨S3584x128, .i32⟩
  | .local _ .vmem, ⟨2, _⟩ => ⟨S3584x128, .i32⟩
  | .local _ .vmem, ⟨3, _⟩ => ⟨S8x28x128, .bf16⟩
  | .local _ .vmem, ⟨4, _⟩ => ⟨S8x28x128, .bf16⟩
  | .local _ .vmem, ⟨5, _⟩ => ⟨S3584x128, .i32⟩
  | .local _ .vmem, ⟨6, _⟩ => ⟨S3584x128, .i32⟩
  | .local _ .vmem, ⟨7, _⟩ => ⟨S8x28x128, .bf16⟩
  | .local _ .vmem, ⟨8, _⟩ => ⟨S8x28x128, .bf16⟩
  | .local _ .vmem, ⟨9, _⟩ => ⟨S8x256x128, .bf16⟩
  | .local _ .vmem, ⟨10, _⟩ => ⟨S8x256x128, .bf16⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x28x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x28x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x128x3584 : Shape := ⟨3, ![2, 128, 3584]⟩
abbrev S3584x2368 : Shape := ⟨2, ![3584, 2368]⟩
abbrev S28x18944 : Shape := ⟨2, ![28, 18944]⟩
abbrev S_ : Shape := ⟨0, ![]⟩
abbrev S28x2368 : Shape := ⟨2, ![28, 2368]⟩
abbrev S28x128x2368 : Shape := ⟨3, ![28, 128, 2368]⟩
abbrev S2x128x2368 : Shape := ⟨3, ![2, 128, 2368]⟩
abbrev S2x128x2368x1 : Shape := ⟨4, ![2, 128, 2368, 1]⟩
abbrev S2x128x2368x8 : Shape := ⟨4, ![2, 128, 2368, 8]⟩
abbrev S2x128x18944 : Shape := ⟨3, ![2, 128, 18944]⟩

abbrev nBuf : Space → Nat
  | .hbm => 276
  | .vmem => 0
  | .smem => 0
  | _ => 0

abbrev hbmTy0_0 (i : Nat) : BufTy := match i % 128 with
  | 0 => ⟨S2x128x3584, .bf16⟩
  | 1 => ⟨S3584x2368, .i32⟩
  | 2 => ⟨S28x18944, .bf16⟩
  | 3 => ⟨S3584x2368, .i32⟩
  | 4 => ⟨S28x18944, .bf16⟩
  | 5 => ⟨S_, .i32⟩
  | 6 => ⟨S3584x2368, .i32⟩
  | 7 => ⟨S3584x2368, .i32⟩
  | 8 => ⟨S_, .i32⟩
  | 9 => ⟨S3584x2368, .i32⟩
  | 10 => ⟨S3584x2368, .i32⟩
  | 11 => ⟨S3584x2368, .bf16⟩
  | 12 => ⟨S_, .bf16⟩
  | 13 => ⟨S3584x2368, .bf16⟩
  | 14 => ⟨S3584x2368, .bf16⟩
  | 15 => ⟨S28x2368, .bf16⟩
  | 16 => ⟨S28x128x2368, .bf16⟩
  | 17 => ⟨S3584x2368, .bf16⟩
  | 18 => ⟨S3584x2368, .bf16⟩
  | 19 => ⟨S2x128x2368, .f32⟩
  | 20 => ⟨S_, .i32⟩
  | 21 => ⟨S3584x2368, .i32⟩
  | 22 => ⟨S3584x2368, .i32⟩
  | 23 => ⟨S_, .i32⟩
  | 24 => ⟨S3584x2368, .i32⟩
  | 25 => ⟨S3584x2368, .i32⟩
  | 26 => ⟨S3584x2368, .bf16⟩
  | 27 => ⟨S_, .bf16⟩
  | 28 => ⟨S3584x2368, .bf16⟩
  | 29 => ⟨S3584x2368, .bf16⟩
  | 30 => ⟨S28x2368, .bf16⟩
  | 31 => ⟨S28x128x2368, .bf16⟩
  | 32 => ⟨S3584x2368, .bf16⟩
  | 33 => ⟨S3584x2368, .bf16⟩
  | 34 => ⟨S2x128x2368, .f32⟩
  | 35 => ⟨S_, .i32⟩
  | 36 => ⟨S3584x2368, .i32⟩
  | 37 => ⟨S3584x2368, .i32⟩
  | 38 => ⟨S_, .i32⟩
  | 39 => ⟨S3584x2368, .i32⟩
  | 40 => ⟨S3584x2368, .i32⟩
  | 41 => ⟨S3584x2368, .bf16⟩
  | 42 => ⟨S_, .bf16⟩
  | 43 => ⟨S3584x2368, .bf16⟩
  | 44 => ⟨S3584x2368, .bf16⟩
  | 45 => ⟨S28x2368, .bf16⟩
  | 46 => ⟨S28x128x2368, .bf16⟩
  | 47 => ⟨S3584x2368, .bf16⟩
  | 48 => ⟨S3584x2368, .bf16⟩
  | 49 => ⟨S2x128x2368, .f32⟩
  | 50 => ⟨S_, .i32⟩
  | 51 => ⟨S3584x2368, .i32⟩
  | 52 => ⟨S3584x2368, .i32⟩
  | 53 => ⟨S_, .i32⟩
  | 54 => ⟨S3584x2368, .i32⟩
  | 55 => ⟨S3584x2368, .i32⟩
  | 56 => ⟨S3584x2368, .bf16⟩
  | 57 => ⟨S_, .bf16⟩
  | 58 => ⟨S3584x2368, .bf16⟩
  | 59 => ⟨S3584x2368, .bf16⟩
  | 60 => ⟨S28x2368, .bf16⟩
  | 61 => ⟨S28x128x2368, .bf16⟩
  | 62 => ⟨S3584x2368, .bf16⟩
  | 63 => ⟨S3584x2368, .bf16⟩
  | 64 => ⟨S2x128x2368, .f32⟩
  | 65 => ⟨S_, .i32⟩
  | 66 => ⟨S3584x2368, .i32⟩
  | 67 => ⟨S3584x2368, .i32⟩
  | 68 => ⟨S_, .i32⟩
  | 69 => ⟨S3584x2368, .i32⟩
  | 70 => ⟨S3584x2368, .i32⟩
  | 71 => ⟨S3584x2368, .bf16⟩
  | 72 => ⟨S_, .bf16⟩
  | 73 => ⟨S3584x2368, .bf16⟩
  | 74 => ⟨S3584x2368, .bf16⟩
  | 75 => ⟨S28x2368, .bf16⟩
  | 76 => ⟨S28x128x2368, .bf16⟩
  | 77 => ⟨S3584x2368, .bf16⟩
  | 78 => ⟨S3584x2368, .bf16⟩
  | 79 => ⟨S2x128x2368, .f32⟩
  | 80 => ⟨S_, .i32⟩
  | 81 => ⟨S3584x2368, .i32⟩
  | 82 => ⟨S3584x2368, .i32⟩
  | 83 => ⟨S_, .i32⟩
  | 84 => ⟨S3584x2368, .i32⟩
  | 85 => ⟨S3584x2368, .i32⟩
  | 86 => ⟨S3584x2368, .bf16⟩
  | 87 => ⟨S_, .bf16⟩
  | 88 => ⟨S3584x2368, .bf16⟩
  | 89 => ⟨S3584x2368, .bf16⟩
  | 90 => ⟨S28x2368, .bf16⟩
  | 91 => ⟨S28x128x2368, .bf16⟩
  | 92 => ⟨S3584x2368, .bf16⟩
  | 93 => ⟨S3584x2368, .bf16⟩
  | 94 => ⟨S2x128x2368, .f32⟩
  | 95 => ⟨S_, .i32⟩
  | 96 => ⟨S3584x2368, .i32⟩
  | 97 => ⟨S3584x2368, .i32⟩
  | 98 => ⟨S_, .i32⟩
  | 99 => ⟨S3584x2368, .i32⟩
  | 100 => ⟨S3584x2368, .i32⟩
  | 101 => ⟨S3584x2368, .bf16⟩
  | 102 => ⟨S_, .bf16⟩
  | 103 => ⟨S3584x2368, .bf16⟩
  | 104 => ⟨S3584x2368, .bf16⟩
  | 105 => ⟨S28x2368, .bf16⟩
  | 106 => ⟨S28x128x2368, .bf16⟩
  | 107 => ⟨S3584x2368, .bf16⟩
  | 108 => ⟨S3584x2368, .bf16⟩
  | 109 => ⟨S2x128x2368, .f32⟩
  | 110 => ⟨S_, .i32⟩
  | 111 => ⟨S3584x2368, .i32⟩
  | 112 => ⟨S3584x2368, .i32⟩
  | 113 => ⟨S_, .i32⟩
  | 114 => ⟨S3584x2368, .i32⟩
  | 115 => ⟨S3584x2368, .i32⟩
  | 116 => ⟨S3584x2368, .bf16⟩
  | 117 => ⟨S_, .bf16⟩
  | 118 => ⟨S3584x2368, .bf16⟩
  | 119 => ⟨S3584x2368, .bf16⟩
  | 120 => ⟨S28x2368, .bf16⟩
  | 121 => ⟨S28x128x2368, .bf16⟩
  | 122 => ⟨S3584x2368, .bf16⟩
  | 123 => ⟨S3584x2368, .bf16⟩
  | 124 => ⟨S2x128x2368, .f32⟩
  | 125 => ⟨S2x128x2368x1, .f32⟩
  | 126 => ⟨S2x128x2368x1, .f32⟩
  | 127 => ⟨S2x128x2368x1, .f32⟩
  | _ => ⟨S2x128x3584, .bf16⟩

abbrev hbmTy0_1 (i : Nat) : BufTy := match i % 128 with
  | 0 => ⟨S2x128x2368x1, .f32⟩
  | 1 => ⟨S2x128x2368x1, .f32⟩
  | 2 => ⟨S2x128x2368x1, .f32⟩
  | 3 => ⟨S2x128x2368x1, .f32⟩
  | 4 => ⟨S2x128x2368x1, .f32⟩
  | 5 => ⟨S2x128x2368x8, .f32⟩
  | 6 => ⟨S2x128x18944, .f32⟩
  | 7 => ⟨S_, .i32⟩
  | 8 => ⟨S3584x2368, .i32⟩
  | 9 => ⟨S3584x2368, .i32⟩
  | 10 => ⟨S_, .i32⟩
  | 11 => ⟨S3584x2368, .i32⟩
  | 12 => ⟨S3584x2368, .i32⟩
  | 13 => ⟨S3584x2368, .bf16⟩
  | 14 => ⟨S_, .bf16⟩
  | 15 => ⟨S3584x2368, .bf16⟩
  | 16 => ⟨S3584x2368, .bf16⟩
  | 17 => ⟨S28x2368, .bf16⟩
  | 18 => ⟨S28x128x2368, .bf16⟩
  | 19 => ⟨S3584x2368, .bf16⟩
  | 20 => ⟨S3584x2368, .bf16⟩
  | 21 => ⟨S2x128x2368, .f32⟩
  | 22 => ⟨S_, .i32⟩
  | 23 => ⟨S3584x2368, .i32⟩
  | 24 => ⟨S3584x2368, .i32⟩
  | 25 => ⟨S_, .i32⟩
  | 26 => ⟨S3584x2368, .i32⟩
  | 27 => ⟨S3584x2368, .i32⟩
  | 28 => ⟨S3584x2368, .bf16⟩
  | 29 => ⟨S_, .bf16⟩
  | 30 => ⟨S3584x2368, .bf16⟩
  | 31 => ⟨S3584x2368, .bf16⟩
  | 32 => ⟨S28x2368, .bf16⟩
  | 33 => ⟨S28x128x2368, .bf16⟩
  | 34 => ⟨S3584x2368, .bf16⟩
  | 35 => ⟨S3584x2368, .bf16⟩
  | 36 => ⟨S2x128x2368, .f32⟩
  | 37 => ⟨S_, .i32⟩
  | 38 => ⟨S3584x2368, .i32⟩
  | 39 => ⟨S3584x2368, .i32⟩
  | 40 => ⟨S_, .i32⟩
  | 41 => ⟨S3584x2368, .i32⟩
  | 42 => ⟨S3584x2368, .i32⟩
  | 43 => ⟨S3584x2368, .bf16⟩
  | 44 => ⟨S_, .bf16⟩
  | 45 => ⟨S3584x2368, .bf16⟩
  | 46 => ⟨S3584x2368, .bf16⟩
  | 47 => ⟨S28x2368, .bf16⟩
  | 48 => ⟨S28x128x2368, .bf16⟩
  | 49 => ⟨S3584x2368, .bf16⟩
  | 50 => ⟨S3584x2368, .bf16⟩
  | 51 => ⟨S2x128x2368, .f32⟩
  | 52 => ⟨S_, .i32⟩
  | 53 => ⟨S3584x2368, .i32⟩
  | 54 => ⟨S3584x2368, .i32⟩
  | 55 => ⟨S_, .i32⟩
  | 56 => ⟨S3584x2368, .i32⟩
  | 57 => ⟨S3584x2368, .i32⟩
  | 58 => ⟨S3584x2368, .bf16⟩
  | 59 => ⟨S_, .bf16⟩
  | 60 => ⟨S3584x2368, .bf16⟩
  | 61 => ⟨S3584x2368, .bf16⟩
  | 62 => ⟨S28x2368, .bf16⟩
  | 63 => ⟨S28x128x2368, .bf16⟩
  | 64 => ⟨S3584x2368, .bf16⟩
  | 65 => ⟨S3584x2368, .bf16⟩
  | 66 => ⟨S2x128x2368, .f32⟩
  | 67 => ⟨S_, .i32⟩
  | 68 => ⟨S3584x2368, .i32⟩
  | 69 => ⟨S3584x2368, .i32⟩
  | 70 => ⟨S_, .i32⟩
  | 71 => ⟨S3584x2368, .i32⟩
  | 72 => ⟨S3584x2368, .i32⟩
  | 73 => ⟨S3584x2368, .bf16⟩
  | 74 => ⟨S_, .bf16⟩
  | 75 => ⟨S3584x2368, .bf16⟩
  | 76 => ⟨S3584x2368, .bf16⟩
  | 77 => ⟨S28x2368, .bf16⟩
  | 78 => ⟨S28x128x2368, .bf16⟩
  | 79 => ⟨S3584x2368, .bf16⟩
  | 80 => ⟨S3584x2368, .bf16⟩
  | 81 => ⟨S2x128x2368, .f32⟩
  | 82 => ⟨S_, .i32⟩
  | 83 => ⟨S3584x2368, .i32⟩
  | 84 => ⟨S3584x2368, .i32⟩
  | 85 => ⟨S_, .i32⟩
  | 86 => ⟨S3584x2368, .i32⟩
  | 87 => ⟨S3584x2368, .i32⟩
  | 88 => ⟨S3584x2368, .bf16⟩
  | 89 => ⟨S_, .bf16⟩
  | 90 => ⟨S3584x2368, .bf16⟩
  | 91 => ⟨S3584x2368, .bf16⟩
  | 92 => ⟨S28x2368, .bf16⟩
  | 93 => ⟨S28x128x2368, .bf16⟩
  | 94 => ⟨S3584x2368, .bf16⟩
  | 95 => ⟨S3584x2368, .bf16⟩
  | 96 => ⟨S2x128x2368, .f32⟩
  | 97 => ⟨S_, .i32⟩
  | 98 => ⟨S3584x2368, .i32⟩
  | 99 => ⟨S3584x2368, .i32⟩
  | 100 => ⟨S_, .i32⟩
  | 101 => ⟨S3584x2368, .i32⟩
  | 102 => ⟨S3584x2368, .i32⟩
  | 103 => ⟨S3584x2368, .bf16⟩
  | 104 => ⟨S_, .bf16⟩
  | 105 => ⟨S3584x2368, .bf16⟩
  | 106 => ⟨S3584x2368, .bf16⟩
  | 107 => ⟨S28x2368, .bf16⟩
  | 108 => ⟨S28x128x2368, .bf16⟩
  | 109 => ⟨S3584x2368, .bf16⟩
  | 110 => ⟨S3584x2368, .bf16⟩
  | 111 => ⟨S2x128x2368, .f32⟩
  | 112 => ⟨S_, .i32⟩
  | 113 => ⟨S3584x2368, .i32⟩
  | 114 => ⟨S3584x2368, .i32⟩
  | 115 => ⟨S_, .i32⟩
  | 116 => ⟨S3584x2368, .i32⟩
  | 117 => ⟨S3584x2368, .i32⟩
  | 118 => ⟨S3584x2368, .bf16⟩
  | 119 => ⟨S_, .bf16⟩
  | 120 => ⟨S3584x2368, .bf16⟩
  | 121 => ⟨S3584x2368, .bf16⟩
  | 122 => ⟨S28x2368, .bf16⟩
  | 123 => ⟨S28x128x2368, .bf16⟩
  | 124 => ⟨S3584x2368, .bf16⟩
  | 125 => ⟨S3584x2368, .bf16⟩
  | 126 => ⟨S2x128x2368, .f32⟩
  | 127 => ⟨S2x128x2368x1, .f32⟩
  | _ => ⟨S2x128x3584, .bf16⟩

abbrev hbmTy0_2 (i : Nat) : BufTy := match i % 128 with
  | 0 => ⟨S2x128x2368x1, .f32⟩
  | 1 => ⟨S2x128x2368x1, .f32⟩
  | 2 => ⟨S2x128x2368x1, .f32⟩
  | 3 => ⟨S2x128x2368x1, .f32⟩
  | 4 => ⟨S2x128x2368x1, .f32⟩
  | 5 => ⟨S2x128x2368x1, .f32⟩
  | 6 => ⟨S2x128x2368x1, .f32⟩
  | 7 => ⟨S2x128x2368x8, .f32⟩
  | 8 => ⟨S2x128x18944, .f32⟩
  | 9 => ⟨S2x128x18944, .f32⟩
  | 10 => ⟨S2x128x18944, .f32⟩
  | 11 => ⟨S_, .f32⟩
  | 12 => ⟨S2x128x18944, .f32⟩
  | 13 => ⟨S2x128x18944, .f32⟩
  | 14 => ⟨S_, .f32⟩
  | 15 => ⟨S2x128x18944, .f32⟩
  | 16 => ⟨S2x128x18944, .f32⟩
  | 17 => ⟨S2x128x18944, .f32⟩
  | 18 => ⟨S2x128x18944, .f32⟩
  | 19 => ⟨S2x128x18944, .bf16⟩
  | _ => ⟨S2x128x3584, .bf16⟩

abbrev hbmTy (i : Nat) : BufTy := match i / 128 with
  | 0 => hbmTy0_0 i
  | 1 => hbmTy0_1 i
  | 2 => hbmTy0_2 i
  | _ => ⟨S2x128x3584, .bf16⟩

abbrev bufTy : (tb : Table) → Fin (tcTables nBuf tb) → BufTy
  | .hbm, ⟨i, _⟩ => hbmTy i
  | _, _ => ⟨S2x128x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_c_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_c_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_16 : Ref sig .tc := ⟨.hbm, 95, rfl⟩
abbrev main_v72 : Ref sig .tc := ⟨.hbm, 96, rfl⟩
abbrev main_v73 : Ref sig .tc := ⟨.hbm, 97, rfl⟩
abbrev main_c_17 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_19 : Ref sig .tc := ⟨.hbm, 110, rfl⟩
abbrev main_v84 : Ref sig .tc := ⟨.hbm, 111, rfl⟩
abbrev main_v85 : Ref sig .tc := ⟨.hbm, 112, rfl⟩
abbrev main_c_20 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_21 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_22 : Ref sig .tc := ⟨.hbm, 135, rfl⟩
abbrev main_v106 : Ref sig .tc := ⟨.hbm, 136, rfl⟩
abbrev main_v107 : Ref sig .tc := ⟨.hbm, 137, rfl⟩
abbrev main_c_23 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_24 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_c_25 : Ref sig .tc := ⟨.hbm, 150, rfl⟩
abbrev main_v118 : Ref sig .tc := ⟨.hbm, 151, rfl⟩
abbrev main_v119 : Ref sig .tc := ⟨.hbm, 152, rfl⟩
abbrev main_c_26 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_27 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_c_28 : Ref sig .tc := ⟨.hbm, 165, rfl⟩
abbrev main_v130 : Ref sig .tc := ⟨.hbm, 166, rfl⟩
abbrev main_v131 : Ref sig .tc := ⟨.hbm, 167, rfl⟩
abbrev main_c_29 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_30 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_c_31 : Ref sig .tc := ⟨.hbm, 180, rfl⟩
abbrev main_v142 : Ref sig .tc := ⟨.hbm, 181, rfl⟩
abbrev main_v143 : Ref sig .tc := ⟨.hbm, 182, rfl⟩
abbrev main_c_32 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_33 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_c_34 : Ref sig .tc := ⟨.hbm, 195, rfl⟩
abbrev main_v154 : Ref sig .tc := ⟨.hbm, 196, rfl⟩
abbrev main_v155 : Ref sig .tc := ⟨.hbm, 197, rfl⟩
abbrev main_c_35 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_36 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_c_37 : Ref sig .tc := ⟨.hbm, 210, rfl⟩
abbrev main_v166 : Ref sig .tc := ⟨.hbm, 211, rfl⟩
abbrev main_v167 : Ref sig .tc := ⟨.hbm, 212, rfl⟩
abbrev main_c_38 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_39 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_c_40 : Ref sig .tc := ⟨.hbm, 225, rfl⟩
abbrev main_v178 : Ref sig .tc := ⟨.hbm, 226, rfl⟩
abbrev main_v179 : Ref sig .tc := ⟨.hbm, 227, rfl⟩
abbrev main_c_41 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_cst_42 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_c_43 : Ref sig .tc := ⟨.hbm, 240, rfl⟩
abbrev main_v190 : Ref sig .tc := ⟨.hbm, 241, rfl⟩
abbrev main_v191 : Ref sig .tc := ⟨.hbm, 242, rfl⟩
abbrev main_c_44 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_45 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_call0_v0 : Ref sig .tc := ⟨.hbm, 265, rfl⟩
abbrev main_call0_v1 : Ref sig .tc := ⟨.hbm, 266, rfl⟩
abbrev main_call0_cst : Ref sig .tc := ⟨.hbm, 267, rfl⟩
abbrev main_call0_v2 : Ref sig .tc := ⟨.hbm, 268, rfl⟩
abbrev main_call0_v3 : Ref sig .tc := ⟨.hbm, 269, rfl⟩
abbrev main_call0_cst_0 : Ref sig .tc := ⟨.hbm, 270, rfl⟩
abbrev main_call0_v4 : Ref sig .tc := ⟨.hbm, 271, rfl⟩
abbrev main_call0_v5 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩

abbrev nD : Nat := 1
abbrev τ : Topo := Topo.v7x

variable {F : FTy → Type} [FloatOps F]
-- ==== Proof.KernelFrame.lean ====
/-
  The frame of the kernel as printed, at any float values: @main runs, its argument arrays end unchanged, and every
  semaphore counter ends at zero. Nothing is said here of the result, so no staging buffer's contents are named: the
  body takes each of its six buffers at some contents and gives each back at some contents.
-/
module

public import proofs.«01_k».proof.Proof.Gen.Kernel.Skeleton
public import proofs.«01_k».proof.Proof.Gen.Kernel.Frame

@[expose] public section

set_option maxRecDepth 16384

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The kernel body on six whole buffers, each at some contents, runs and gives each back at some contents. -/
theorem sound_kernel (c : Dev nD) (E : Set ℕ) (i : grid0.Coords) (arg1 : Memref sig .tc .vmem S256x3584 .bf16) (harg1 : arg1.IsWhole) (arg2 : Memref sig .tc .vmem S3584x128 .i32) (harg2 : arg2.IsWhole) (arg3 : Memref sig .tc .vmem S8x28x128 .bf16) (harg3 : arg3.IsWhole) (arg4 : Memref sig .tc .vmem S3584x128 .i32) (harg4 : arg4.IsWhole) (arg5 : Memref sig .tc .vmem S8x28x128 .bf16) (harg5 : arg5.IsWhole) (arg6 : Memref sig .tc .vmem S8x256x128 .bf16) (harg6 : arg6.IsWhole)
    (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, Hk⟩
  sl_exec
  sl_step
  iapply Hk
  isplitl [H0]
  · iexists _; iexists f0; isplitr; · ipureintro; rfl
    iexact H0
  isplitl [H1]
  · iexists _; iexists f1; isplitr; · ipureintro; rfl
    iexact H1
  isplitl [H2]
  · iexists _; iexists f2; isplitr; · ipureintro; rfl
    iexact H2
  isplitl [H3]
  · iexists _; iexists f3; isplitr; · ipureintro; rfl
    iexact H3
  isplitl [H4]
  · iexists _; iexists f4; isplitr; · ipureintro; rfl
    iexact H4
  iexists _; iexists _; isplitr
  swap; · iexact H5
  ipureintro; rfl

/-- The pipeline's proof data: the arrays as the region finds them; the contents the body leaves are never read (every
    window is forgotten below), so any will do; the invariant the untouched rest. -/
def dats (_ : Fin 1) (c : Dev nD) : Dat τ (Elt F) Unit ℕ (UR sig nD τ) ℕ cfg0 c where
  A w := V m c (Pipeline.arrRef spec0 w)
  after w t := (cfg0.win w).fill (cfg0.grid.coords t) (fun _ => Classical.choice inferInstance) (iblk m c w t)
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

/-- The body table's row at point `t` is the body on the point's staging buffers. -/
theorem defs₀_row (t : Fin cfg0.N) :
    defs₀ (F := F) .tc cfg0.body (cfg0.bodyArgs t (cfg0.slots t)) = bodyAt0 t := by
  unfold defs₀; rw [Defs.onTc_tc]

/-- What the body is called with at point `t`, and what it returns: the invariant and its six buffers at some contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))

theorem sound_body (c : Dev nD) (t : Fin cfg0.N) :
    bodyPre m c t ⊢ wp frame (wpE (defs₀ (F := F)) Variants.none c none) Set.univ (bodyAt0 t) (fun _ => bodyPre m c t) := by
  unfold bodyPre bodyAt0
  iintro ⟨HΦ, Ho, H0, H1, H2, H3, H4, H5⟩
  iapply (sound_kernel c Set.univ (grid0.coords t) _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation with every window forgotten: `sound_body` restated. -/
theorem body_obligation (c : Dev nD) :
    BodyObligationLoose (dats (F := F) m 0 c) (defs₀ (F := F)) Variants.none () Set.univ (fun _ => true) := fun t => by
  rw [bigSep_W0, defs₀_row]
  exact triple_restated (sound_body m c t) rfl .rfl fun _ => .rfl

/-- The buffers the host lines after the region write. -/
def T : Finset (Ref sig .tc) := {main_v8, main_v9}

theorem sfx_T : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl
  · simp only [StableHlo.unary_writes, Finset.mem_singleton] at hb
    have := Proc.devRef_injective _ hb
    subst this; decide
  · simp only [StableHlo.reshape_writes, Finset.mem_singleton] at hb
    have := Proc.devRef_injective _ hb
    subst this; decide

-- the launch theorem's implicit arguments are found by unifying its conclusion with this one, which takes unfolding plain
-- definitions in a metavariable's type
set_option backward.isDefEq.respectTransparency.types false in
set_option maxHeartbeats 800000 in
/-- The run: the input arrays and the buffers neither staged nor written end as the region found them, every counter at
    zero. -/
theorem run_main : θ_run defs (onTc (τ := τ) (main (F := F))) (s₀ m ρ) (fun r =>
    RDat.FramePostR cfg0 (fun c => (dats m 0 c).toRForget (fun _ => true)) T (fun c b => V0 m c (Proc.devRef .tc b)) r ∧ r.2.sem = fun _ => 0) :=
  Pipeline.θ_run_frame_around_T_forget (Q' := _) cfgs (dats m) (0 : Fin 1) launch0 defs₀ Variants.none (fun _ => true) T m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- The kernel as printed runs, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
      (h.1.arr_in c 1 rfl).trans ((A_eq m c 1).trans (V_main_arg1 m c)),
      ((h.1 c).2 main_arg2 (Finset.mem_sdiff.mpr ⟨Pipeline.mem_restRefs_of main_arg2 (by decide) (by decide), by decide⟩)).trans (V_main_arg2 m c),
      (h.1.arr_in c 3 rfl).trans ((A_eq m c 3).trans (V_main_arg3 m c)),
      ((h.1 c).2 main_arg4 (Finset.mem_sdiff.mpr ⟨Pipeline.mem_restRefs_of main_arg4 (by decide) (by decide), by decide⟩)).trans (V_main_arg4 m c)⟩, h.2⟩)
    (run_main m ρ)

end Cert.Kernel.Proof

end
-- ==== Proof.Body.lean ====
/-
  The kernel's body, at any float values: what it leaves in its output buffer as a function of its five input blocks,
  and its triple with exact contents. The body's four rounds are one and the same computation at different shifts and
  rows, so it is stated once (`deq`, `proj`, `act`, `pair`), and the output buffer is eight slabs of it.
-/
module

public import proofs.«01_k».proof.Proof.Gen.KernelIdeal.Skeleton
public import proofs.«01_k».proof.Proof.Gen.KernelIdeal.Frame

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationLoose)

variable {F : FTy → Type} [FloatOps F]

local notation "𝕄" => MT nD τ sig Unit (Elt F) ℕ (UR sig nD τ) ℕ

/-! ## The rectangles the body loads and stores -/

abbrev r0_0 : Rect S3584x128 := Rect.unit (s := S3584x128) ![0, 0] S3584x128.size inb_S3584x128_S3584x128_0_0
abbrev r0_1 : Rect S8x28x128 := Rect.unit (s := S8x28x128) ![0, 0, 0] S1x28x128.size inb_S8x28x128_S1x28x128_0_0_0
abbrev r0_2 : Rect S8x28x128 := Rect.unit (s := S8x28x128) ![2, 0, 0] S1x28x128.size inb_S8x28x128_S1x28x128_2_0_0
abbrev r0_3 : Rect S256x3584 := Rect.unit (s := S256x3584) ![0, 0] S256x3584.size inb_S256x3584_S256x3584_0_0
abbrev r0_4 : Rect S8x256x128 := Rect.unit (s := S8x256x128) ![0, 0, 0] S1x256x128.size inb_S8x256x128_S1x256x128_0_0_0
abbrev r0_5 : Rect S8x256x128 := Rect.unit (s := S8x256x128) ![2, 0, 0] S1x256x128.size inb_S8x256x128_S1x256x128_2_0_0
abbrev r0_6 : Rect S8x28x128 := Rect.unit (s := S8x28x128) ![4, 0, 0] S1x28x128.size inb_S8x28x128_S1x28x128_4_0_0
abbrev r0_7 : Rect S8x28x128 := Rect.unit (s := S8x28x128) ![6, 0, 0] S1x28x128.size inb_S8x28x128_S1x28x128_6_0_0
abbrev r0_8 : Rect S8x256x128 := Rect.unit (s := S8x256x128) ![4, 0, 0] S1x256x128.size inb_S8x256x128_S1x256x128_4_0_0
abbrev r0_9 : Rect S8x256x128 := Rect.unit (s := S8x256x128) ![6, 0, 0] S1x256x128.size inb_S8x256x128_S1x256x128_6_0_0
abbrev r0_10 : Rect S8x28x128 := Rect.unit (s := S8x28x128) ![1, 0, 0] S1x28x128.size inb_S8x28x128_S1x28x128_1_0_0
abbrev r0_11 : Rect S8x28x128 := Rect.unit (s := S8x28x128) ![3, 0, 0] S1x28x128.size inb_S8x28x128_S1x28x128_3_0_0
abbrev r0_12 : Rect S8x256x128 := Rect.unit (s := S8x256x128) ![1, 0, 0] S1x256x128.size inb_S8x256x128_S1x256x128_1_0_0
abbrev r0_13 : Rect S8x256x128 := Rect.unit (s := S8x256x128) ![3, 0, 0] S1x256x128.size inb_S8x256x128_S1x256x128_3_0_0
abbrev r0_14 : Rect S8x28x128 := Rect.unit (s := S8x28x128) ![5, 0, 0] S1x28x128.size inb_S8x28x128_S1x28x128_5_0_0
abbrev r0_15 : Rect S8x28x128 := Rect.unit (s := S8x28x128) ![7, 0, 0] S1x28x128.size inb_S8x28x128_S1x28x128_7_0_0
abbrev r0_16 : Rect S8x256x128 := Rect.unit (s := S8x256x128) ![5, 0, 0] S1x256x128.size inb_S8x256x128_S1x256x128_5_0_0
abbrev r0_17 : Rect S8x256x128 := Rect.unit (s := S8x256x128) ![7, 0, 0] S1x256x128.size inb_S8x256x128_S1x256x128_7_0_0

/-! ## What the body computes -/

/-- One nibble's weights: the code words shifted right by `n`, the rows of each block of sixteen packed in pairs (row `c`
    with row `8 + c`) into one word, the nibble of each half put under the exponent of 128 and read as bf16, 136 taken
    off, and each group of 128 rows scaled. -/
def deq (n : BitVec 32) (w : Vec F S3584x128 .i32) (s : Vec F S1x28x128 .bf16) : FVec F S3584x128 .bf16 :=
  have q : IVec S224x2x8x128 32 := shapeCast S224x2x8x128 (shrsi w (broadcast S3584x128 n) : IVec S3584x128 32) shapeCasts_S3584x128_S224x2x8x128
  have lo : IVec S224x8x128 32 := shapeCast S224x8x128 (extractStridedSlice S224x1x8x128 ![0, 0, 0, 0] q slices_S224x2x8x128_o0_0_0_0_S224x1x8x128 : IVec S224x1x8x128 32) shapeCasts_S224x1x8x128_S224x8x128
  have hi : IVec S224x8x128 32 := shapeCast S224x8x128 (extractStridedSlice S224x1x8x128 ![0, 1, 0, 0] q slices_S224x2x8x128_o0_1_0_0_S224x1x8x128 : IVec S224x1x8x128 32) shapeCasts_S224x1x8x128_S224x8x128
  have p : IVec S1792x128 32 := shapeCast S1792x128 (packElementwiseI16 lo hi : IVec S224x8x128 32) shapeCasts_S224x8x128_S1792x128
  have b : IVec S1792x128 32 := ori (andi p (broadcast S1792x128 983055#32)) (broadcast S1792x128 1124090624#32)
  have f : FVec F S3584x128 .bf16 := bitcastToFloat .bf16 (bitcast S3584x128 16 b bitcasts_S1792x128_w32_S3584x128_w16)
  have d : FVec F S3584x128 .bf16 := subf f (broadcast S3584x128 (Scalar.ofBits .bf16 0x4308#16 : F .bf16))
  have s2 : FVec F S28x128 .bf16 := shapeCast S28x128 s shapeCasts_S1x28x128_S28x128
  have s3 : FVec F S28x128x128 .bf16 := broadcastTo S28x128x128 (shapeCast S28x1x128 s2 shapeCasts_S28x128_S28x1x128 : FVec F S28x1x128 .bf16) broadcasts_S28x1x128_S28x128x128
  shapeCast S3584x128 (mulf (shapeCast S28x128x128 d shapeCasts_S3584x128_S28x128x128) s3 : FVec F S28x128x128 .bf16) shapeCasts_S28x128x128_S3584x128

/-- The block of `x` times two nibbles' weights side by side. -/
def proj (x : Vec F S256x3584 .bf16) (wa wb : FVec F S3584x128 .bf16) : FVec F S256x256 .f32 :=
  matmul dot_S256x3584_S3584x256_S256x256_1_0_0_1_n_n none (shapeCast S256x3584 x shapeCasts_S256x3584_S256x3584 : FVec F S256x3584 .bf16)
    (concatenate S3584x256 1 [⟨S3584x128, wa⟩, ⟨S3584x128, wb⟩] concatenates_S3584x128_S3584x128_S3584x256_d1 : FVec F S3584x256 .bf16)
    (constant S256x256 .f32 0x00000000#32)

/-- `g * logistic g * u`, narrowed. -/
def act (g u : FVec F S256x256 .f32) : FVec F S256x256 .bf16 :=
  truncf .bf16 (mulf (mulf g (logistic g)) u : FVec F S256x256 .f32) bitsLt_bf16_f32

/-- One round of the body: both projections at two shifts and two rows of scales, and the activation. -/
def pair (n n' : BitVec 32) (x : Vec F S256x3584 .bf16) (wg : Vec F S3584x128 .i32) (sg sg' : Vec F S1x28x128 .bf16)
    (wu : Vec F S3584x128 .i32) (su su' : Vec F S1x28x128 .bf16) : FVec F S256x256 .bf16 :=
  act (proj x (deq n wg sg) (deq n' wg sg')) (proj x (deq n wu su) (deq n' wu su'))

/-- The left half of a round, as one slab of the output. -/
def left (h : FVec F S256x256 .bf16) : FVec F S1x256x128 .bf16 :=
  shapeCast S1x256x128 (extractStridedSlice S256x128 ![0, 0] h slices_S256x256_o0_0_S256x128 : FVec F S256x128 .bf16) shapeCasts_S256x128_S1x256x128

/-- The right half of a round, as one slab of the output. -/
def right (h : FVec F S256x256 .bf16) : FVec F S1x256x128 .bf16 :=
  shapeCast S1x256x128 (extractStridedSlice S256x128 ![0, 128] h slices_S256x256_o0_128_S256x128 : FVec F S256x128 .bf16) shapeCasts_S256x128_S1x256x128

/-- Round 0 of the body. -/
def round0 (x0 : Vec F S256x3584 .bf16) (x1 : Vec F S3584x128 .i32) (x2 : Vec F S8x28x128 .bf16) (x3 : Vec F S3584x128 .i32) (x4 : Vec F S8x28x128 .bf16) : FVec F S256x256 .bf16 :=
  pair 0#32 4#32 (View.ld x0 r0_3) (View.ld x1 r0_0) (View.ld x2 r0_1) (View.ld x2 r0_2) (View.ld x3 r0_0) (View.ld x4 r0_1) (View.ld x4 r0_2)

/-- Round 1 of the body. -/
def round1 (x0 : Vec F S256x3584 .bf16) (x1 : Vec F S3584x128 .i32) (x2 : Vec F S8x28x128 .bf16) (x3 : Vec F S3584x128 .i32) (x4 : Vec F S8x28x128 .bf16) : FVec F S256x256 .bf16 :=
  pair 8#32 12#32 (View.ld x0 r0_3) (View.ld x1 r0_0) (View.ld x2 r0_6) (View.ld x2 r0_7) (View.ld x3 r0_0) (View.ld x4 r0_6) (View.ld x4 r0_7)

/-- Round 2 of the body. -/
def round2 (x0 : Vec F S256x3584 .bf16) (x1 : Vec F S3584x128 .i32) (x2 : Vec F S8x28x128 .bf16) (x3 : Vec F S3584x128 .i32) (x4 : Vec F S8x28x128 .bf16) : FVec F S256x256 .bf16 :=
  pair 16#32 20#32 (View.ld x0 r0_3) (View.ld x1 r0_0) (View.ld x2 r0_10) (View.ld x2 r0_11) (View.ld x3 r0_0) (View.ld x4 r0_10) (View.ld x4 r0_11)

/-- Round 3 of the body. -/
def round3 (x0 : Vec F S256x3584 .bf16) (x1 : Vec F S3584x128 .i32) (x2 : Vec F S8x28x128 .bf16) (x3 : Vec F S3584x128 .i32) (x4 : Vec F S8x28x128 .bf16) : FVec F S256x256 .bf16 :=
  pair 24#32 28#32 (View.ld x0 r0_3) (View.ld x1 r0_0) (View.ld x2 r0_14) (View.ld x2 r0_15) (View.ld x3 r0_0) (View.ld x4 r0_14) (View.ld x4 r0_15)

/-- The output buffer after the body: its eight stores as pieces, the last first. -/
def out0_5 (x0 : Vec F S256x3584 .bf16) (x1 : Vec F S3584x128 .i32) (x2 : Vec F S8x28x128 .bf16) (x3 : Vec F S3584x128 .i32) (x4 : Vec F S8x28x128 .bf16) : Vec F S8x256x128 .bf16 :=
  View.canon [⟨r0_17, right (round3 x0 x1 x2 x3 x4)⟩, ⟨r0_16, left (round3 x0 x1 x2 x3 x4)⟩,
    ⟨r0_13, right (round2 x0 x1 x2 x3 x4)⟩, ⟨r0_12, left (round2 x0 x1 x2 x3 x4)⟩,
    ⟨r0_9, right (round1 x0 x1 x2 x3 x4)⟩, ⟨r0_8, left (round1 x0 x1 x2 x3 x4)⟩,
    ⟨r0_5, right (round0 x0 x1 x2 x3 x4)⟩, ⟨r0_4, left (round0 x0 x1 x2 x3 x4)⟩]

/-- Its stores tile the buffer (checked by evaluation), so they cover it. -/
theorem cover0_5 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (y : S8x256x128.Idx) :
    ∃ pc ∈ ([⟨r0_17, p0⟩, ⟨r0_16, p1⟩, ⟨r0_13, p2⟩, ⟨r0_12, p3⟩, ⟨r0_9, p4⟩, ⟨r0_8, p5⟩, ⟨r0_5, p6⟩, ⟨r0_4, p7⟩] : List (View.Piece (Elt F) S8x256x128 .bf16)), y ∈ pc.1.set :=
  View.cover_of_tiled [⟨r0_17, p0⟩, ⟨r0_16, p1⟩, ⟨r0_13, p2⟩, ⟨r0_12, p3⟩, ⟨r0_9, p4⟩, ⟨r0_8, p5⟩, ⟨r0_5, p6⟩, ⟨r0_4, p7⟩] S1x256x128.size (by rfl) y

/-! ## The body's triple -/

set_option maxHeartbeats 4000000 in
/-- The kernel body on whole buffers, the five inputs' at contents `x0` … `x4` and the output's at anything, runs and
    leaves the inputs as they were and the output at `out0_5` of them. -/
theorem sound_kernel (c : Dev nD) (E : Set ℕ) (i : grid0.Coords) (arg1 : Memref sig .tc .vmem S256x3584 .bf16) (harg1 : arg1.IsWhole) (arg2 : Memref sig .tc .vmem S3584x128 .i32) (harg2 : arg2.IsWhole) (arg3 : Memref sig .tc .vmem S8x28x128 .bf16) (harg3 : arg3.IsWhole) (arg4 : Memref sig .tc .vmem S3584x128 .i32) (harg4 : arg4.IsWhole) (arg5 : Memref sig .tc .vmem S8x28x128 .bf16) (harg5 : arg5.IsWhole) (arg6 : Memref sig .tc .vmem S8x256x128 .bf16) (harg6 : arg6.IsWhole)
    (x0 : Vec F S256x3584 .bf16) (x1 : Vec F S3584x128 .i32) (x2 : Vec F S8x28x128 .bf16) (x3 : Vec F S3584x128 .i32) (x4 : Vec F S8x28x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__body i arg1 harg1 arg2 harg2 arg3 harg3 arg4 harg4 arg5 harg5 arg6 harg6) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover0_5 _ _ _ _ _ _ _ _)).trans ?_
  rfl

end Cert.KernelIdeal.Proof

end
-- ==== Proof.Nibble.lean ====
/-
  One nibble as an extended real. The kernel reads a four-bit code by putting it under the exponent of 128 in the sixteen
  bits of a bf16 and taking 136 off; the reference converts the code to a number and takes 8 off. Both are the code minus 8.
-/
module

public import Idealize.ShloMosaic.Lib.Pointwise

@[expose] public section

noncomputable section

namespace Cert.Nibble

open Idealize.ShloMosaic

/-- The nibble of word `w` that a right shift by `n` brings to the bottom, as a number. -/
def code (n w : BitVec 32) : ℕ := (w.sshiftRight' n).toNat % 16

/-- The weight it stands for: the code minus 8. -/
def weight (n w : BitVec 32) : EReal := ((code n w : ℝ) : EReal) - ((8 : ℝ) : EReal)

theorem code_lt (n w : BitVec 32) : code n w < 16 := Nat.mod_lt _ (by decide)

/-- The low half of a packed word, masked and put under the exponent of 128. -/
theorem low_half (a b : BitVec 32) :
    (((b.setWidth 16 ++ a.setWidth 16 : BitVec 32) &&& 983055#32) ||| 1124090624#32).extractLsb' 0 16
      = 0x4300#16 ||| BitVec.ofNat 16 (a.toNat % 16) := by
  have h : BitVec.ofNat 16 (a.toNat % 16) = a.setWidth 16 &&& 15#16 := by
    apply BitVec.eq_of_toNat_eq
    rw [BitVec.toNat_ofNat, BitVec.toNat_and, BitVec.toNat_setWidth]
    rw [show (15#16).toNat = 2 ^ 4 - 1 from rfl, Nat.and_two_pow_sub_one_eq_mod]
    omega
  rw [h]
  apply BitVec.eq_of_getLsbD_eq
  intro i hi
  simp only [BitVec.getLsbD_extractLsb', BitVec.getLsbD_or, BitVec.getLsbD_and, BitVec.getLsbD_append, BitVec.getLsbD_setWidth]
  interval_cases i <;> simp

/-- The high half likewise. -/
theorem high_half (a b : BitVec 32) :
    (((b.setWidth 16 ++ a.setWidth 16 : BitVec 32) &&& 983055#32) ||| 1124090624#32).extractLsb' 16 16
      = 0x4300#16 ||| BitVec.ofNat 16 (b.toNat % 16) := by
  have h : BitVec.ofNat 16 (b.toNat % 16) = b.setWidth 16 &&& 15#16 := by
    apply BitVec.eq_of_toNat_eq
    rw [BitVec.toNat_ofNat, BitVec.toNat_and, BitVec.toNat_setWidth]
    rw [show (15#16).toNat = 2 ^ 4 - 1 from rfl, Nat.and_two_pow_sub_one_eq_mod]
    omega
  rw [h]
  apply BitVec.eq_of_getLsbD_eq
  intro i hi
  simp only [BitVec.getLsbD_extractLsb', BitVec.getLsbD_or, BitVec.getLsbD_and, BitVec.getLsbD_append, BitVec.getLsbD_setWidth]
  interval_cases i <;> simp

/-- Either half, by parity. -/
theorem half (r : ℕ) (a b : BitVec 32) :
    (((b.setWidth 16 ++ a.setWidth 16 : BitVec 32) &&& 983055#32) ||| 1124090624#32).extractLsb' (16 * (r % 2)) 16
      = 0x4300#16 ||| BitVec.ofNat 16 ((if r % 2 = 0 then a else b).toNat % 16) := by
  rcases Nat.mod_two_eq_zero_or_one r with h | h
  · rw [h, if_pos rfl]; exact low_half a b
  · rw [h, if_neg (by decide)]; exact high_half a b

theorem ofBits_136 : Ideal.ofBits .bf16 17160#16 = ((136 : ℝ) : EReal) := by
  simp [Ideal.ofBits, Ideal.ieee, -EReal.coe_mul]

theorem ofBits_8 : Ideal.ofBits .bf16 16640#16 = ((8 : ℝ) : EReal) := by
  simp [Ideal.ofBits, Ideal.ieee, -EReal.coe_mul]; norm_num

/-- A code under the exponent of 128, less 136, is the code less 8. -/
theorem ofBits_code (q : ℕ) (hq : q < 16) :
    Ideal.ofBits .bf16 (0x4300#16 ||| BitVec.ofNat 16 q) - Ideal.ofBits .bf16 17160#16 = ((q : ℝ) : EReal) - ((8 : ℝ) : EReal) := by
  rw [ofBits_136]
  interval_cases q <;> simp [Ideal.ofBits, Ideal.ieee, -EReal.coe_mul, -EReal.coe_sub] <;> norm_cast <;> norm_num

/-- The reference's spelling of a weight. -/
theorem weight_host (n w : BitVec 32) (hn : n.toNat < 32) :
    (FloatOps.sitofp (F := Ideal) .bf16 (IntOp.andi (IntOp.shrsi ArithUnit.host w n) 15#32) : EReal) - Ideal.ofBits .bf16 16640#16 = weight n w := by
  have h : (IntOp.andi (IntOp.shrsi ArithUnit.host w n) 15#32) = BitVec.ofNat 32 (code n w) := by
    unfold IntOp.shrsi IntOp.andi code
    rw [if_pos hn]
    apply BitVec.eq_of_toNat_eq
    rw [BitVec.toNat_ofNat, BitVec.toNat_and, show (15#32).toNat = 2 ^ 4 - 1 from rfl, Nat.and_two_pow_sub_one_eq_mod]
    omega
  rw [h, ofBits_8]
  have hq := code_lt n w
  unfold weight
  generalize code n w = q at hq
  congr 1
  change (((BitVec.ofNat 32 q).toInt : ℝ) : EReal) = _
  congr 1
  interval_cases q <;> simp

/-- The kernel's shift, by less than the width. -/
theorem shrsi_vector (n w : BitVec 32) (hn : n.toNat < 32) : IntOp.shrsi ArithUnit.vector w n = w.sshiftRight' n := by
  unfold IntOp.shrsi; rw [if_pos hn]

end Cert.Nibble

end
-- ==== Proof.Dot.lean ====
/-
  One output channel's projection, as both programs compute it over the extended reals: a sum over the 3584 rows of code
  words of an activation times a dequantised weight. The kernel takes the sum in another order (`perm`), which keeps every
  row in its group.
-/
module

public import proofs.«01_k».proof.Proof.Nibble

@[expose] public section

noncomputable section

namespace Cert.Nibble

open Idealize.ShloMosaic

/-- The row of code words that row `r` of the dequantised weights is read from: of each sixteen, rows `c` and `8 + c`
    become rows `2c` and `2c + 1`. -/
def perm (r : Fin 3584) : Fin 3584 := ⟨r.val / 16 * 16 + r.val % 2 * 8 + r.val % 16 / 2, by omega⟩

/-- The group of 128 rows that row `r` lies in. -/
def grp (r : Fin 3584) : Fin 28 := ⟨r.val / 128, by omega⟩

/-- The shift that brings to the bottom the nibble of output channel `o` of a word's eight. -/
def shift : Fin 8 → BitVec 32 := ![0#32, 16#32, 4#32, 20#32, 8#32, 24#32, 12#32, 28#32]

theorem shift_lt : ∀ o : Fin 8, (shift o).toNat < 32 := by decide

/-- `g * logistic g * u`. -/
def silu (g u : EReal) : EReal := g * Ideal.logistic g * u

/-- A projection: activations `x`, code words `w`, one scale per group of 128 rows, the nibble at shift `n`. -/
def dot (n : BitVec 32) (x : Fin 3584 → EReal) (w : Fin 3584 → BitVec 32) (s : Fin 28 → EReal) : EReal :=
  ∑ k : Fin 3584, x k * (weight n (w k) * s (grp k))

theorem perm_div (k : Fin 3584) : (perm k).val / 16 = k.val / 16 := by
  have h : k.val % 2 * 8 + k.val % 16 / 2 < 16 := by omega
  show (k.val / 16 * 16 + k.val % 2 * 8 + k.val % 16 / 2) / 16 = k.val / 16
  generalize k.val / 16 = q at *
  omega

theorem perm_mod (k : Fin 3584) : (perm k).val % 16 = k.val % 2 * 8 + k.val % 16 / 2 := by
  have h : k.val % 2 * 8 + k.val % 16 / 2 < 16 := by omega
  show (k.val / 16 * 16 + k.val % 2 * 8 + k.val % 16 / 2) % 16 = _
  generalize k.val / 16 = q at *
  omega

/-- `perm` only moves rows within sixteen, so not out of their group. -/
theorem grp_perm (k : Fin 3584) : grp (perm k) = grp k := by
  refine Fin.ext ?_
  have h := perm_div k
  show (perm k).val / 128 = k.val / 128
  rw [show 128 = 16 * 8 from rfl, ← Nat.div_div_eq_div_mul, ← Nat.div_div_eq_div_mul, h]

theorem perm_injective : Function.Injective perm := fun a b h => by
  have hd : a.val / 16 = b.val / 16 := by rw [← perm_div a, ← perm_div b, h]
  have hm : a.val % 2 * 8 + a.val % 16 / 2 = b.val % 2 * 8 + b.val % 16 / 2 := by rw [← perm_mod a, ← perm_mod b, h]
  have ha : a.val % 2 = a.val % 16 % 2 := by omega
  have hb : b.val % 2 = b.val % 16 % 2 := by omega
  have la : a.val % 16 < 16 := Nat.mod_lt _ (by decide)
  have lb : b.val % 16 < 16 := Nat.mod_lt _ (by decide)
  have hmod : a.val % 16 = b.val % 16 := by
    rw [ha, hb] at hm
    generalize a.val % 16 = x at *
    generalize b.val % 16 = y at *
    omega
  refine Fin.ext ?_
  rw [← Nat.div_add_mod a.val 16, ← Nat.div_add_mod b.val 16, hd, hmod]

/-- A sum in the kernel's order is the sum. -/
theorem sum_perm (f : Fin 3584 → EReal) : ∑ k, f (perm k) = ∑ k, f k :=
  Equiv.sum_comp (Equiv.ofBijective perm (Finite.injective_iff_bijective.mp perm_injective)) f

/-- The projection with its rows taken in the kernel's order. -/
theorem dot_perm (n : BitVec 32) (x : Fin 3584 → EReal) (w : Fin 3584 → BitVec 32) (s : Fin 28 → EReal) :
    ∑ k : Fin 3584, x (perm k) * (weight n (w (perm k)) * s (grp k)) = dot n x w s := by
  unfold dot
  rw [← sum_perm fun k => x k * (weight n (w k) * s (grp k))]
  refine Finset.sum_congr rfl fun k _ => ?_
  rw [grp_perm]

end Cert.Nibble

end
-- ==== Proof.Block.lean ====
/-
  The body's output buffer read at an index, over the extended reals. Slab `o` of it, at row `r` and column `l`, is
  `g * logistic g * u` of two sums over the 3584 rows of code words, in the order in which the kernel's packing leaves
  them (`perm`). Column `l` of the output reads column `l` of the codes and scales and no other, which is what makes the
  columns of the last block that lie outside the arrays harmless.
-/
module

public import proofs.«01_k».proof.Proof.Body
public import proofs.«01_k».proof.Proof.Dot
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Proof

open Cert.KernelIdeal Cert.KernelIdeal.Gen Cert.Nibble
open Idealize.ShloMosaic Idealize.SL.Sem

theorem bitcast_src (r : Fin 3584) (l : Fin 128) (p : ℕ) (hp) (h : p < 1792) :
    (bitcasts_S1792x128_w32_S3584x128_w16).srcIdx (ix2 r l) p hp = ix2 ⟨p, h⟩ l := by
  funext a
  apply Fin.ext
  fin_cases a
  · rw [Shape.Bitcasts.srcIdx_row _ _ _ _ _ (by rfl)]; rfl
  · rw [Shape.Bitcasts.srcIdx_other _ _ _ _ _ (by decide)]; rfl

theorem bitcast_row (r : Fin 3584) (l : Fin 128) : S3584x128.row (ix2 r l) = r.val := rfl

/-- A dequantised weight is the weight of its code times its group's scale. -/
theorem deq_apply (n : BitVec 32) (hn : n.toNat < 32) (w : Vec Ideal S3584x128 .i32) (s : Vec Ideal S1x28x128 .bf16) (r : Fin 3584) (l : Fin 128) :
    deq (F := Ideal) n w s (ix2 r l) = weight n (w (ix2 (perm r) l)) * s (ix3 0 (grp r) l) := by
  pointwise [deq]
  rw [bitcast_32_16, bitcast_src _ _ _ _ (by have := r.2; rw [bitcast_row]; omega)]
  pointwise
  rw [shrsi_vector _ _ hn, shrsi_vector _ _ hn]
  unfold IntOp.ori IntOp.andi
  refine congrArg (· * s (ix3 0 (grp r) l)) ?_
  rw [half, ofBits_code _ (Nat.mod_lt _ (by decide))]
  unfold weight code
  by_cases h : r.val % 2 = 0
  · rw [if_pos h, show perm r = ⟨r.val / 2 / 8 * 16 + r.val / 2 % 8, by omega⟩ from Fin.ext (by simp only [perm]; omega)]
  · rw [if_neg h, show perm r = ⟨r.val / 2 / 8 * 16 + 8 + r.val / 2 % 8, by omega⟩ from Fin.ext (by simp only [perm]; omega)]

/-- One element of a projection of a block: row `r` of `x` against the weights of channel `o` in column `l`. -/
def dotAt (x : Vec Ideal S256x3584 .bf16) (w : Vec Ideal S3584x128 .i32) (s : Vec Ideal S8x28x128 .bf16) (o : Fin 8) (r : Fin 256) (l : Fin 128) : EReal :=
  ∑ k : Fin 3584, x (ix2 r k) * (weight (shift o) (w (ix2 (perm k) l)) * s (ix3 o (grp k) l))

/-- Slab `o` of the output buffer at row `r` and column `l`. -/
def cell (x0 : Vec Ideal S256x3584 .bf16) (x1 : Vec Ideal S3584x128 .i32) (x2 : Vec Ideal S8x28x128 .bf16) (x3 : Vec Ideal S3584x128 .i32) (x4 : Vec Ideal S8x28x128 .bf16)
    (o : Fin 8) (r : Fin 256) (l : Fin 128) : EReal :=
  silu (dotAt x0 x1 x2 o r l) (dotAt x0 x3 x4 o r l)

/-- The left half of a projection reads the first nibble's weights … -/
theorem proj_left (x : Vec Ideal S256x3584 .bf16) (wa wb : FVec Ideal S3584x128 .bf16) (r : Fin 256) (l : Fin 128) :
    proj (F := Ideal) x wa wb (ix2 r ⟨l.val, by omega⟩) = ∑ k : Fin 3584, x (ix2 r k) * wa (ix2 k l) := by
  pointwise [proj]

/-- … and the right half the second's. -/
theorem proj_right (x : Vec Ideal S256x3584 .bf16) (wa wb : FVec Ideal S3584x128 .bf16) (r : Fin 256) (l : Fin 128) :
    proj (F := Ideal) x wa wb (ix2 r ⟨128 + l.val, by omega⟩) = ∑ k : Fin 3584, x (ix2 r k) * wb (ix2 k l) := by
  pointwise [proj]

theorem act_apply (g u : FVec Ideal S256x256 .f32) (j : S256x256.Idx) : act (F := Ideal) g u j = silu (g j) (u j) := rfl

theorem left_apply (h : FVec Ideal S256x256 .bf16) (z : Fin 1) (r : Fin 256) (l : Fin 128) :
    left (F := Ideal) h (ix3 z r l) = h (ix2 r ⟨l.val, by omega⟩) := by
  pointwise [left]

theorem right_apply (h : FVec Ideal S256x256 .bf16) (z : Fin 1) (r : Fin 256) (l : Fin 128) :
    right (F := Ideal) h (ix3 z r l) = h (ix2 r ⟨128 + l.val, by omega⟩) := by
  pointwise [right]

variable (x0 : Vec Ideal S256x3584 .bf16) (x1 : Vec Ideal S3584x128 .i32) (x2 : Vec Ideal S8x28x128 .bf16) (x3 : Vec Ideal S3584x128 .i32) (x4 : Vec Ideal S8x28x128 .bf16)

/-- The left slab of a round over whole blocks is the channel whose shift and scale row it takes. -/
theorem pair_left (n n' : BitVec 32) (o : Fin 8) (hn : shift o = n) (sg sg' su su' : Vec Ideal S1x28x128 .bf16)
    (hg : ∀ g l, sg (ix3 0 g l) = x2 (ix3 o g l)) (hu : ∀ g l, su (ix3 0 g l) = x4 (ix3 o g l)) (r : Fin 256) (l : Fin 128) (z : Fin 1) :
    left (F := Ideal) (pair n n' (View.ld x0 r0_3) (View.ld x1 r0_0) sg sg' (View.ld x3 r0_0) su su') (ix3 z r l) = cell x0 x1 x2 x3 x4 o r l := by
  have hlt : n.toNat < 32 := by rw [← hn]; exact shift_lt o
  rw [left_apply]
  unfold pair
  rw [act_apply, proj_left, proj_left]
  unfold cell dotAt
  rw [hn]
  refine congrArg₂ silu (Finset.sum_congr rfl fun k _ => ?_) (Finset.sum_congr rfl fun k _ => ?_)
  · rw [deq_apply n hlt, hg]; pointwise
  · rw [deq_apply n hlt, hu]; pointwise

theorem pair_right (n n' : BitVec 32) (o : Fin 8) (hn : shift o = n') (sg sg' su su' : Vec Ideal S1x28x128 .bf16)
    (hg : ∀ g l, sg' (ix3 0 g l) = x2 (ix3 o g l)) (hu : ∀ g l, su' (ix3 0 g l) = x4 (ix3 o g l)) (r : Fin 256) (l : Fin 128) (z : Fin 1) :
    right (F := Ideal) (pair n n' (View.ld x0 r0_3) (View.ld x1 r0_0) sg sg' (View.ld x3 r0_0) su su') (ix3 z r l) = cell x0 x1 x2 x3 x4 o r l := by
  have hlt : n'.toNat < 32 := by rw [← hn]; exact shift_lt o
  rw [right_apply]
  unfold pair
  rw [act_apply, proj_right, proj_right]
  unfold cell dotAt
  rw [hn]
  refine congrArg₂ silu (Finset.sum_congr rfl fun k _ => ?_) (Finset.sum_congr rfl fun k _ => ?_)
  · rw [deq_apply n' hlt, hg]; pointwise
  · rw [deq_apply n' hlt, hu]; pointwise

/-- The slab stored at row `o` of the output holds channel `o`'s values: what `canon_apply_of_pieces` asks of a piece. -/
theorem slab_apply (o : Fin 8) (inb) (v : FVec Ideal S1x256x128 .bf16) (hv : ∀ z r l, v (ix3 z r l) = cell x0 x1 x2 x3 x4 o r l)
    (x : (Rect.unit (s := S8x256x128) ![o.val, 0, 0] S1x256x128.size inb).shape.Idx) :
    v x = (fun y : S8x256x128.Idx => cell x0 x1 x2 x3 x4 (y 0) (y 1) (y 2)) ((Rect.unit (s := S8x256x128) ![o.val, 0, 0] S1x256x128.size inb).emb x) := by
  have hx : v x = cell x0 x1 x2 x3 x4 o (x 1) (x 2) := by
    rw [← hv (x 0) (x 1) (x 2)]; exact congrArg v (eq_ix3 (n0 := 1) (n1 := 256) (n2 := 128) x)
  rw [hx]
  show cell x0 x1 x2 x3 x4 o (x 1) (x 2) = cell x0 x1 x2 x3 x4 _ _ _
  congr 1
  · apply Fin.ext; rw [Rect.emb_apply]; show o.val = o.val + 1 * (x 0).val
    have : (x 0).val < 1 := (x 0).2
    omega
  · apply Fin.ext; rw [Rect.emb_apply]; show (x 1).val = 0 + 1 * (x 1).val
    omega
  · apply Fin.ext; rw [Rect.emb_apply]; show (x 2).val = 0 + 1 * (x 2).val
    omega

/-- The output buffer at an index. -/
theorem out0_5_apply (o : Fin 8) (r : Fin 256) (l : Fin 128) :
    out0_5 (F := Ideal) x0 x1 x2 x3 x4 (ix3 o r l) = cell x0 x1 x2 x3 x4 o r l := by
  unfold out0_5
  refine View.canon_apply_of_pieces (Val := Elt Ideal) (e := .bf16) (fun y : S8x256x128.Idx => cell x0 x1 x2 x3 x4 (y 0) (y 1) (y 2)) _ ?_ _ (cover0_5 _ _ _ _ _ _ _ _ _)
  intro p hp x
  simp only [List.mem_cons, List.mem_nil_iff, or_false] at hp
  rcases hp with rfl | rfl | rfl | rfl | rfl | rfl | rfl | rfl
  · exact slab_apply x0 x1 x2 x3 x4 7 inb_S8x256x128_S1x256x128_7_0_0 _ (fun z r l => pair_right x0 x1 x2 x3 x4 _ _ 7 rfl _ _ _ _ (by intro g l; pointwise) (by intro g l; pointwise) r l z) x
  · exact slab_apply x0 x1 x2 x3 x4 5 inb_S8x256x128_S1x256x128_5_0_0 _ (fun z r l => pair_left x0 x1 x2 x3 x4 _ _ 5 rfl _ _ _ _ (by intro g l; pointwise) (by intro g l; pointwise) r l z) x
  · exact slab_apply x0 x1 x2 x3 x4 3 inb_S8x256x128_S1x256x128_3_0_0 _ (fun z r l => pair_right x0 x1 x2 x3 x4 _ _ 3 rfl _ _ _ _ (by intro g l; pointwise) (by intro g l; pointwise) r l z) x
  · exact slab_apply x0 x1 x2 x3 x4 1 inb_S8x256x128_S1x256x128_1_0_0 _ (fun z r l => pair_left x0 x1 x2 x3 x4 _ _ 1 rfl _ _ _ _ (by intro g l; pointwise) (by intro g l; pointwise) r l z) x
  · exact slab_apply x0 x1 x2 x3 x4 6 inb_S8x256x128_S1x256x128_6_0_0 _ (fun z r l => pair_right x0 x1 x2 x3 x4 _ _ 6 rfl _ _ _ _ (by intro g l; pointwise) (by intro g l; pointwise) r l z) x
  · exact slab_apply x0 x1 x2 x3 x4 4 inb_S8x256x128_S1x256x128_4_0_0 _ (fun z r l => pair_left x0 x1 x2 x3 x4 _ _ 4 rfl _ _ _ _ (by intro g l; pointwise) (by intro g l; pointwise) r l z) x
  · exact slab_apply x0 x1 x2 x3 x4 2 inb_S8x256x128_S1x256x128_2_0_0 _ (fun z r l => pair_right x0 x1 x2 x3 x4 _ _ 2 rfl _ _ _ _ (by intro g l; pointwise) (by intro g l; pointwise) r l z) x
  · exact slab_apply x0 x1 x2 x3 x4 0 inb_S8x256x128_S1x256x128_0_0_0 _ (fun z r l => pair_left x0 x1 x2 x3 x4 _ _ 0 rfl _ _ _ _ (by intro g l; pointwise) (by intro g l; pointwise) r l z) x

/-- Column `l` of a projection reads column `l` of the codes and scales and no other. -/
theorem dotAt_congr {w w' : Vec Ideal S3584x128 .i32} {s s' : Vec Ideal S8x28x128 .bf16} (l : Fin 128)
    (hw : ∀ k, w (ix2 k l) = w' (ix2 k l)) (hs : ∀ o g, s (ix3 o g l) = s' (ix3 o g l)) (o : Fin 8) (r : Fin 256) :
    dotAt x0 w s o r l = dotAt x0 w' s' o r l := by
  unfold dotAt
  simp only [hw, hs]

end Cert.KernelIdeal.Proof

end
-- ==== Proof.Run.lean ====
/-
  The run of the ideal kernel. The pipeline's nineteen blocks are 128 columns wide and the arrays 2368, so the last block
  lies half outside them: a fetch leaves the columns outside as they were, and a write-back skips them. The proof data name
  the buffers on the columns inside the arrays only; there the output buffer holds `whole`, the result array in closed
  form, read at the block's columns, whatever the columns outside hold. The blocks cover the array, so it ends at `whole`.
-/
module

public import proofs.«01_k».proof.Proof.Block
public import proofs.«01_k».proof.Proof.Gen.KernelIdeal.Frame
public import Idealize.ShloMosaic.Lib.Pipeline.ValueKit.Geometry

@[expose] public section

set_option maxRecDepth 16384

noncomputable section

namespace Cert.KernelIdeal.Proof

open Cert.KernelIdeal Cert.KernelIdeal.Gen Cert.Nibble
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RDat BodyObligationLoose)

local notation "𝕄" => MT nD τ sig Unit (Elt Ideal) ℕ (UR sig nD τ) ℕ

/-! ## The result array in closed form -/

/-- One projection over the whole arrays: channel `o` of word column `l`, at row `r` of the permuted activations. -/
def wholeDot (x : Vec Ideal S256x3584 .bf16) (w : Vec Ideal S3584x2368 .i32) (s : Vec Ideal S8x28x2368 .bf16)
    (o : Fin 8) (r : Fin 256) (l : Fin 2368) : EReal :=
  ∑ k : Fin 3584, x (ix2 r k) * (weight (shift o) (w (ix2 (perm k) l)) * s (ix3 o (grp k) l))

/-- The result array of the kernel call. -/
def whole (x : Vec Ideal S256x3584 .bf16) (w : Vec Ideal S3584x2368 .i32) (s : Vec Ideal S8x28x2368 .bf16)
    (w' : Vec Ideal S3584x2368 .i32) (s' : Vec Ideal S8x28x2368 .bf16) : Vec Ideal S8x256x2368 .bf16 := fun i =>
  silu (wholeDot x w s (i 0) (i 1) (i 2)) (wholeDot x w' s' (i 0) (i 1) (i 2))

variable (m : (ℓ : Loc nD τ sig) → Buf (Elt Ideal) ℓ) (ρ : Dev nD → PrngReg)

/-- `whole` of the arrays as the region finds them. -/
def result (c : Dev nD) : Vec Ideal S8x256x2368 .bf16 :=
  whole (V m c main_v2) (V m c main_arg1) (V m c main_v4) (V m c main_arg3) (V m c main_v6)

/-! ## Blocks and their columns inside the arrays -/

/-- A coordinate is moved when it lies in the block and, counted from the array's start, in the array. -/
theorem lt_extent {ix k d x : ℕ} (h : ix * k < d) (hx : x < k) (hd : ix * k + x < d) : x < (Pipeline.Clip.of ix k d).extent k := by
  unfold Pipeline.Clip.of
  split
  · exact hx
  · show x < d - ix * k; omega

theorem extent_lt {ix k d x : ℕ} (h : ix * k < d) (hx : x < (Pipeline.Clip.of ix k d).extent k) : ix * k + x < d := by
  unfold Pipeline.Clip.of at hx
  split at hx
  · next hn => rw [Nat.succ_mul] at hn; have : x < k := hx; omega
  · have : x < d - ix * k := hx; omega

theorem full_extent {ix k x : ℕ} (h : ix = 0) (hx : x < k) : x < (Pipeline.Clip.of ix k k).extent k := by
  subst h
  exact lt_extent (by omega) hx (by omega)

theorem last_extent {ix t x : ℕ} (h : ix = t) (hx : x < 128) (hd : t * 128 + x < 2368) : x < (Pipeline.Clip.of ix 128 2368).extent 128 := by
  subst h
  exact lt_extent (by omega) hx hd

theorem t1_1 : ∀ t : Fin grid0.N, cc0_transform_1 (grid0.coords t) 1 = t.val := by decide +kernel
theorem t2_2 : ∀ t : Fin grid0.N, cc0_transform_2 (grid0.coords t) 2 = t.val := by decide +kernel
theorem t3_1 : ∀ t : Fin grid0.N, cc0_transform_3 (grid0.coords t) 1 = t.val := by decide +kernel
theorem t4_2 : ∀ t : Fin grid0.N, cc0_transform_4 (grid0.coords t) 2 = t.val := by decide +kernel
theorem t5_2 : ∀ t : Fin grid0.N, cc0_transform_5 (grid0.coords t) 2 = t.val := by decide +kernel

theorem t1_0 (i : grid0.Coords) : cc0_transform_1 i 0 = 0 := rfl

theorem moved1 (t : Fin grid0.N) (k : Fin 3584) (l : Fin 128) (h : t.val * 128 + l.val < 2368) :
    win0_1.moved (grid0.coords t) (ix2 k l) = true := by
  have h0 : k.val < (Pipeline.Clip.of (cc0_transform_1 (grid0.coords t) 0) 3584 3584).extent 3584 := full_extent (t1_0 _) k.isLt
  have h1 : l.val < (Pipeline.Clip.of (cc0_transform_1 (grid0.coords t) 1) 128 2368).extent 128 := last_extent (t1_1 t) l.isLt h
  refine (win0_1.moved_iff _ _).mpr fun a => ?_
  match a with
  | ⟨0, _⟩ => exact h0
  | ⟨1, _⟩ => exact h1

/-- Window 1's buffer after the fetch at point `t`, at a column inside the array: the array's. -/
theorem fill1 (c : Dev nD) (t : Fin cfg0.N) (d) (k : Fin 3584) (l : Fin 128) (h : t.val * 128 + l.val < 2368) :
    win0_1.fill (grid0.coords t) d (iblk m c 1 t) (ix2 k l) = V m c main_arg1 (ix2 k ⟨t.val * 128 + l.val, h⟩) := by
  unfold Window.fill
  rw [dif_pos (moved1 t k l h)]
  unfold iblk
  refine congrArg (V m c main_arg1) (funext fun a => Fin.ext ?_)
  match a with
  | ⟨0, _⟩ => show 0 * 3584 + 1 * k.val = k.val; omega
  | ⟨1, _⟩ => show cc0_transform_1 (grid0.coords t) 1 * 128 + 1 * l.val = t.val * 128 + l.val; rw [t1_1]; omega

theorem t3_0 (i : grid0.Coords) : cc0_transform_3 i 0 = 0 := rfl

theorem moved3 (t : Fin grid0.N) (k : Fin 3584) (l : Fin 128) (h : t.val * 128 + l.val < 2368) :
    win0_3.moved (grid0.coords t) (ix2 k l) = true := by
  have h0 : k.val < (Pipeline.Clip.of (cc0_transform_3 (grid0.coords t) 0) 3584 3584).extent 3584 := full_extent (t3_0 _) k.isLt
  have h1 : l.val < (Pipeline.Clip.of (cc0_transform_3 (grid0.coords t) 1) 128 2368).extent 128 := last_extent (t3_1 t) l.isLt h
  refine (win0_3.moved_iff _ _).mpr fun a => ?_
  match a with
  | ⟨0, _⟩ => exact h0
  | ⟨1, _⟩ => exact h1

/-- Window 3's buffer after the fetch at point `t`, at a column inside the array: the array's. -/
theorem fill3 (c : Dev nD) (t : Fin cfg0.N) (d) (k : Fin 3584) (l : Fin 128) (h : t.val * 128 + l.val < 2368) :
    win0_3.fill (grid0.coords t) d (iblk m c 3 t) (ix2 k l) = V m c main_arg3 (ix2 k ⟨t.val * 128 + l.val, h⟩) := by
  unfold Window.fill
  rw [dif_pos (moved3 t k l h)]
  unfold iblk
  refine congrArg (V m c main_arg3) (funext fun a => Fin.ext ?_)
  match a with
  | ⟨0, _⟩ => show 0 * 3584 + 1 * k.val = k.val; omega
  | ⟨1, _⟩ => show cc0_transform_3 (grid0.coords t) 1 * 128 + 1 * l.val = t.val * 128 + l.val; rw [t3_1]; omega

theorem t2_0 (i : grid0.Coords) : cc0_transform_2 i 0 = 0 := rfl
theorem t2_1 (i : grid0.Coords) : cc0_transform_2 i 1 = 0 := rfl

theorem moved2 (t : Fin grid0.N) (o : Fin 8) (g : Fin 28) (l : Fin 128) (h : t.val * 128 + l.val < 2368) :
    win0_2.moved (grid0.coords t) (ix3 o g l) = true := by
  have h0 : o.val < (Pipeline.Clip.of (cc0_transform_2 (grid0.coords t) 0) 8 8).extent 8 := full_extent (t2_0 _) o.isLt
  have h1 : g.val < (Pipeline.Clip.of (cc0_transform_2 (grid0.coords t) 1) 28 28).extent 28 := full_extent (t2_1 _) g.isLt
  have h2 : l.val < (Pipeline.Clip.of (cc0_transform_2 (grid0.coords t) 2) 128 2368).extent 128 := last_extent (t2_2 t) l.isLt h
  refine (win0_2.moved_iff _ _).mpr fun a => ?_
  match a with
  | ⟨0, _⟩ => exact h0
  | ⟨1, _⟩ => exact h1
  | ⟨2, _⟩ => exact h2

/-- Window 2's buffer after the fetch at point `t`, at a column inside the array: the array's. -/
theorem fill2 (c : Dev nD) (t : Fin cfg0.N) (d) (o : Fin 8) (g : Fin 28) (l : Fin 128) (h : t.val * 128 + l.val < 2368) :
    win0_2.fill (grid0.coords t) d (iblk m c 2 t) (ix3 o g l) = V m c main_v4 (ix3 o g ⟨t.val * 128 + l.val, h⟩) := by
  unfold Window.fill
  rw [dif_pos (moved2 t o g l h)]
  unfold iblk
  refine congrArg (V m c main_v4) (funext fun a => Fin.ext ?_)
  match a with
  | ⟨0, _⟩ => show 0 * 8 + 1 * o.val = o.val; omega
  | ⟨1, _⟩ => show 0 * 28 + 1 * g.val = g.val; omega
  | ⟨2, _⟩ => show cc0_transform_2 (grid0.coords t) 2 * 128 + 1 * l.val = t.val * 128 + l.val; rw [t2_2]; omega

theorem t4_0 (i : grid0.Coords) : cc0_transform_4 i 0 = 0 := rfl
theorem t4_1 (i : grid0.Coords) : cc0_transform_4 i 1 = 0 := rfl

theorem moved4 (t : Fin grid0.N) (o : Fin 8) (g : Fin 28) (l : Fin 128) (h : t.val * 128 + l.val < 2368) :
    win0_4.moved (grid0.coords t) (ix3 o g l) = true := by
  have h0 : o.val < (Pipeline.Clip.of (cc0_transform_4 (grid0.coords t) 0) 8 8).extent 8 := full_extent (t4_0 _) o.isLt
  have h1 : g.val < (Pipeline.Clip.of (cc0_transform_4 (grid0.coords t) 1) 28 28).extent 28 := full_extent (t4_1 _) g.isLt
  have h2 : l.val < (Pipeline.Clip.of (cc0_transform_4 (grid0.coords t) 2) 128 2368).extent 128 := last_extent (t4_2 t) l.isLt h
  refine (win0_4.moved_iff _ _).mpr fun a => ?_
  match a with
  | ⟨0, _⟩ => exact h0
  | ⟨1, _⟩ => exact h1
  | ⟨2, _⟩ => exact h2

/-- Window 4's buffer after the fetch at point `t`, at a column inside the array: the array's. -/
theorem fill4 (c : Dev nD) (t : Fin cfg0.N) (d) (o : Fin 8) (g : Fin 28) (l : Fin 128) (h : t.val * 128 + l.val < 2368) :
    win0_4.fill (grid0.coords t) d (iblk m c 4 t) (ix3 o g l) = V m c main_v6 (ix3 o g ⟨t.val * 128 + l.val, h⟩) := by
  unfold Window.fill
  rw [dif_pos (moved4 t o g l h)]
  unfold iblk
  refine congrArg (V m c main_v6) (funext fun a => Fin.ext ?_)
  match a with
  | ⟨0, _⟩ => show 0 * 8 + 1 * o.val = o.val; omega
  | ⟨1, _⟩ => show 0 * 28 + 1 * g.val = g.val; omega
  | ⟨2, _⟩ => show cc0_transform_4 (grid0.coords t) 2 * 128 + 1 * l.val = t.val * 128 + l.val; rw [t4_2]; omega

/-- Window 0 is the whole array of permuted activations. -/
theorem iblk0 (c : Dev nD) (t : Fin cfg0.N) (r : Fin 256) (k : Fin 3584) : iblk m c 0 t (ix2 r k) = V m c main_v2 (ix2 r k) := by
  unfold iblk
  refine congrArg (V m c main_v2) (funext fun a => Fin.ext ?_)
  match a with
  | ⟨0, _⟩ => show 0 * 256 + 1 * r.val = r.val; omega
  | ⟨1, _⟩ => show 0 * 3584 + 1 * k.val = k.val; omega

/-- One projection of the fetched blocks, at a column inside the arrays. -/
theorem dotAt_gate (c : Dev nD) (t : Fin cfg0.N) (d1 d2) (o : Fin 8) (r : Fin 256) (l : Fin 128) (h : t.val * 128 + l.val < 2368) :
    dotAt (iblk m c 0 t) (win0_1.fill (grid0.coords t) d1 (iblk m c 1 t)) (win0_2.fill (grid0.coords t) d2 (iblk m c 2 t)) o r l
      = wholeDot (V m c main_v2) (V m c main_arg1) (V m c main_v4) o r ⟨t.val * 128 + l.val, h⟩ := by
  unfold dotAt wholeDot
  refine Finset.sum_congr rfl fun k _ => ?_
  rw [iblk0, fill1 m c t d1 _ l h, fill2 m c t d2 o _ l h]

theorem dotAt_up (c : Dev nD) (t : Fin cfg0.N) (d3 d4) (o : Fin 8) (r : Fin 256) (l : Fin 128) (h : t.val * 128 + l.val < 2368) :
    dotAt (iblk m c 0 t) (win0_3.fill (grid0.coords t) d3 (iblk m c 3 t)) (win0_4.fill (grid0.coords t) d4 (iblk m c 4 t)) o r l
      = wholeDot (V m c main_v2) (V m c main_arg3) (V m c main_v6) o r ⟨t.val * 128 + l.val, h⟩ := by
  unfold dotAt wholeDot
  refine Finset.sum_congr rfl fun k _ => ?_
  rw [iblk0, fill3 m c t d3 _ l h, fill4 m c t d4 o _ l h]

/-- The part of `result` that the write-back at point `t` writes. -/
def oblk (c : Dev nD) (t : Fin cfg0.N) : (win0_5.xblock (grid0.coords t)).Idx → Elt Ideal .bf16 :=
  (win0_5.blk t).view.read (Elt Ideal) (result m c)

/-- What the body leaves in the output buffer is, on the columns inside the array, that part of `result`, whatever the
    input buffers hold in the columns outside. -/
theorem cut_out (c : Dev nD) (t : Fin cfg0.N) (d1 d2 d3 d4) :
    win0_5.cut (grid0.coords t) (out0_5 (F := Ideal) (iblk m c 0 t) (win0_1.fill (grid0.coords t) d1 (iblk m c 1 t))
        (win0_2.fill (grid0.coords t) d2 (iblk m c 2 t)) (win0_3.fill (grid0.coords t) d3 (iblk m c 3 t))
        (win0_4.fill (grid0.coords t) d4 (iblk m c 4 t)))
      = oblk m c t := by
  funext j
  have e5 := t5_2 t
  have hl : (j 2).val < (Pipeline.Clip.of (cc0_transform_5 (grid0.coords t) 2) 128 2368).extent 128 := (j 2).isLt
  have hin : t.val * 128 + (j 2).val < 2368 := by
    have := extent_lt (hstart0_5 (grid0.coords t) 2) hl
    rw [e5] at this; exact this
  have b0 : (j 0).val < 8 := Nat.lt_of_lt_of_le (j 0).isLt (win0_5.xsize_le (grid0.coords t) 0)
  have b1 : (j 1).val < 256 := Nat.lt_of_lt_of_le (j 1).isLt (win0_5.xsize_le (grid0.coords t) 1)
  have b2 : (j 2).val < 128 := Nat.lt_of_lt_of_le (j 2).isLt (win0_5.xsize_le (grid0.coords t) 2)
  have hj : win0_5.xinj (grid0.coords t) j = ix3 (⟨(j 0).val, b0⟩ : Fin 8) (⟨(j 1).val, b1⟩ : Fin 256) (⟨(j 2).val, b2⟩ : Fin 128) := by
    funext a
    match a with
    | ⟨0, _⟩ => rfl
    | ⟨1, _⟩ => rfl
    | ⟨2, _⟩ => rfl
  have hr : oblk m c t j = result m c (ix3 (⟨(j 0).val, b0⟩ : Fin 8) (⟨(j 1).val, b1⟩ : Fin 256) (⟨t.val * 128 + (j 2).val, hin⟩ : Fin 2368)) := by
    unfold oblk
    refine congrArg (result m c) (funext fun a => Fin.ext ?_)
    match a with
    | ⟨0, _⟩ => show 0 * 8 + 1 * (j 0).val = (j 0).val; omega
    | ⟨1, _⟩ => show 0 * 256 + 1 * (j 1).val = (j 1).val; omega
    | ⟨2, _⟩ => show cc0_transform_5 (grid0.coords t) 2 * 128 + 1 * (j 2).val = t.val * 128 + (j 2).val; rw [e5]; omega
  rw [hr]
  show out0_5 (F := Ideal) _ _ _ _ _ (win0_5.xinj (grid0.coords t) j) = _
  rw [hj, out0_5_apply]
  unfold cell
  rw [dotAt_gate m c t d1 d2 _ _ _ hin, dotAt_up m c t d3 d4 _ _ _ hin]
  rfl

/-! ## The proof data -/

/-- The arrays as the region finds them; after the body at point `t` each buffer at its block, filled out past the array's
    end with a value nothing reads; the invariant the untouched rest. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Classical.choice inferInstance) (iblk m c 1 t)
    | ⟨2, _⟩ => win0_2.fill (grid0.coords t) (fun _ => Classical.choice inferInstance) (iblk m c 2 t)
    | ⟨3, _⟩ => win0_3.fill (grid0.coords t) (fun _ => Classical.choice inferInstance) (iblk m c 3 t)
    | ⟨4, _⟩ => win0_4.fill (grid0.coords t) (fun _ => Classical.choice inferInstance) (iblk m c 4 t)
    | ⟨5, _⟩ => win0_5.fill (grid0.coords t) (fun _ => Classical.choice inferInstance) (oblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : win0_1.cut (grid0.coords t) ((dats m 0 c).after 1 t) = iblk m c 1 t := by
  dsimp only [dats]; exact win0_1.cut_fill _ _ _
theorem after0_2 (c : Dev nD) (t : Fin cfg0.N) : win0_2.cut (grid0.coords t) ((dats m 0 c).after 2 t) = iblk m c 2 t := by
  dsimp only [dats]; exact win0_2.cut_fill _ _ _
theorem after0_3 (c : Dev nD) (t : Fin cfg0.N) : win0_3.cut (grid0.coords t) ((dats m 0 c).after 3 t) = iblk m c 3 t := by
  dsimp only [dats]; exact win0_3.cut_fill _ _ _
theorem after0_4 (c : Dev nD) (t : Fin cfg0.N) : win0_4.cut (grid0.coords t) ((dats m 0 c).after 4 t) = iblk m c 4 t := by
  dsimp only [dats]; exact win0_4.cut_fill _ _ _
theorem after0_5 (c : Dev nD) (t : Fin cfg0.N) : win0_5.cut (grid0.coords t) ((dats m 0 c).after 5 t) = oblk m c t := by
  dsimp only [dats]; exact win0_5.cut_fill _ _ _

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = win0_1.fill (grid0.coords t) d (iblk m c 1 t) := by
  unfold Dat.before; rw [if_pos (fetch0_1 t)]; rfl
theorem before0_2 (c : Dev nD) (t : Fin cfg0.N) (d) : (dats m 0 c).before 2 t d = win0_2.fill (grid0.coords t) d (iblk m c 2 t) := by
  unfold Dat.before; rw [if_pos (fetch0_2 t)]; rfl
theorem before0_3 (c : Dev nD) (t : Fin cfg0.N) (d) : (dats m 0 c).before 3 t d = win0_3.fill (grid0.coords t) d (iblk m c 3 t) := by
  unfold Dat.before; rw [if_pos (fetch0_3 t)]; rfl
theorem before0_4 (c : Dev nD) (t : Fin cfg0.N) (d) : (dats m 0 c).before 4 t d = win0_4.fill (grid0.coords t) d (iblk m c 4 t) := by
  unfold Dat.before; rw [if_pos (fetch0_4 t)]; rfl

/-! ## The body's obligation -/

theorem defs₀_row (t : Fin cfg0.N) :
    defs₀ (F := Ideal) .tc cfg0.body (cfg0.bodyArgs t (cfg0.slots t)) = bodyAt0 t := by
  unfold defs₀; rw [Defs.onTc_tc]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: window 0's buffer as it was, each other buffer at its contents on the columns inside the array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  have hc := cut_out m c t d1 d2 d3 d4
  have hf := win0_5.fill_cut (grid0.coords t) (out0_5 (F := Ideal) (iblk m c 0 t) (win0_1.fill (grid0.coords t) d1 (iblk m c 1 t))
        (win0_2.fill (grid0.coords t) d2 (iblk m c 2 t)) (win0_3.fill (grid0.coords t) d3 (iblk m c 3 t))
        (win0_4.fill (grid0.coords t) d4 (iblk m c 4 t)))
  rw [hc] at hf
  iapply (sound_kernel c Set.univ (grid0.coords t) _ _ _ _ _ _ _ _ _ _ _ _ (iblk m c 0 t) (win0_1.fill (grid0.coords t) d1 (iblk m c 1 t))
        (win0_2.fill (grid0.coords t) d2 (iblk m c 2 t)) (win0_3.fill (grid0.coords t) d3 (iblk m c 3 t))
        (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  iexists (out0_5 (F := Ideal) (iblk m c 0 t) (win0_1.fill (grid0.coords t) d1 (iblk m c 1 t))
        (win0_2.fill (grid0.coords t) d2 (iblk m c 2 t)) (win0_3.fill (grid0.coords t) d3 (iblk m c 3 t))
        (win0_4.fill (grid0.coords t) d4 (iblk m c 4 t)))
  rw [hf]
  iexact H5

theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The run: every array of the pipeline ends as the proof data compute it, every other buffer as the host lines after the
    region leave it, every counter at zero. -/
theorem run_main : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The array the kernel call writes ends at its closed form. -/
theorem arrAt_result (c : Dev nD) : (dats m 0 c).arrAt 5 cfg0.N = result m c := by
  refine (dats m 0 c).arrAt_eq_of_covers 5 _ (by decide +kernel) fun t _ y => ?_
  exact congrFun (after0_5 m c t) y

end Cert.KernelIdeal.Proof

end
-- ==== Proof.KernelValue.lean ====
/-
  What the ideal kernel ends with, over its arguments. The host lines before the kernel call permute the activations and
  split the scales by output channel; those after it put the channels back behind the word columns.
-/
module

public import proofs.«01_k».proof.Proof.Run
public import Idealize.ShloMosaic.Lib.StableHlo.ReadAt

@[expose] public section

set_option maxRecDepth 16384

noncomputable section

namespace Cert.KernelIdeal.Proof

open Cert.KernelIdeal Cert.KernelIdeal.Gen Cert.Nibble
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The permuted activations. -/
theorem v2_apply (c : Dev nD) (b : Fin 2) (r : Fin 128) (k : Fin 3584) :
    V m c main_v2 (ix2 ⟨b.val * 128 + r.val, by omega⟩ k) = m ((c : Thread nD τ).loc main_arg0) (ix3 b r (perm k)) := by
  unfold V V0 hostOps0
  simp only [List.flatten_cons, List.flatten_nil, List.append_nil]
  after_reads_at
  refine congrArg (m ((c : Thread nD τ).loc main_arg0)) (eq_ix3 (n0 := 2) (n1 := 128) (n2 := 3584) _ |>.trans ?_)
  congr 1
  · exact Fin.ext (by show (b.val * 128 + r.val) / 128 = b.val; omega)
  · exact Fin.ext (by show (b.val * 128 + r.val) % 128 = r.val; omega)
  · exact Fin.ext (by show k.val / 16 * 16 + k.val % 2 * 8 + k.val / 2 % 8 = k.val / 16 * 16 + k.val % 2 * 8 + k.val % 16 / 2; omega)

/-- The scales, by output channel. -/
theorem v4_apply (c : Dev nD) (o : Fin 8) (g : Fin 28) (l : Fin 2368) :
    V m c main_v4 (ix3 o g l) = m ((c : Thread nD τ).loc main_arg2) (ix2 g ⟨l.val * 8 + o.val, by omega⟩) := by
  unfold V V0 hostOps0
  simp only [List.flatten_cons, List.flatten_nil, List.append_nil]
  after_reads_at

theorem v6_apply (c : Dev nD) (o : Fin 8) (g : Fin 28) (l : Fin 2368) :
    V m c main_v6 (ix3 o g l) = m ((c : Thread nD τ).loc main_arg4) (ix2 g ⟨l.val * 8 + o.val, by omega⟩) := by
  unfold V V0 hostOps0
  simp only [List.flatten_cons, List.flatten_nil, List.append_nil]
  after_reads_at

/-- The result buffer, from the array the kernel call wrote. -/
theorem v9_apply (c : Dev nD) (b : Fin 2) (r : Fin 128) (l : Fin 2368) (o : Fin 8) :
    Pipeline.afterTail₀ cfgs (dats m) 0 (V0 m) [hostOps1] c main_v9 (ix3 b r ⟨l.val * 8 + o.val, by omega⟩)
      = result m c (ix3 o ⟨b.val * 128 + r.val, by omega⟩ l) := by
  unfold Pipeline.afterTail₀ hostOps1
  simp only [List.flatten_cons, List.flatten_nil, List.append_nil]
  after_reads_at
  exact congrFun ((Pipeline.withArrays_arr spec0 launch0.win.arr_inj c (V0 m c) (fun w => (dats m 0 c).arrAt w cfg0.N) 5).trans (arrAt_result m c)) _

/-- The projections of `result`, over the arguments. -/
theorem gate_eq (c : Dev nD) (o : Fin 8) (b : Fin 2) (r : Fin 128) (l : Fin 2368) :
    wholeDot (V m c main_v2) (V m c main_arg1) (V m c main_v4) o ⟨b.val * 128 + r.val, by omega⟩ l
      = dot (shift o) (fun k => m ((c : Thread nD τ).loc main_arg0) (ix3 b r k)) (fun k => m ((c : Thread nD τ).loc main_arg1) (ix2 k l))
          (fun g => m ((c : Thread nD τ).loc main_arg2) (ix2 g ⟨l.val * 8 + o.val, by omega⟩)) := by
  rw [← dot_perm]
  unfold wholeDot
  refine Finset.sum_congr rfl fun k _ => ?_
  rw [v2_apply, v4_apply, V_main_arg1]

theorem up_eq (c : Dev nD) (o : Fin 8) (b : Fin 2) (r : Fin 128) (l : Fin 2368) :
    wholeDot (V m c main_v2) (V m c main_arg3) (V m c main_v6) o ⟨b.val * 128 + r.val, by omega⟩ l
      = dot (shift o) (fun k => m ((c : Thread nD τ).loc main_arg0) (ix3 b r k)) (fun k => m ((c : Thread nD τ).loc main_arg3) (ix2 k l))
          (fun g => m ((c : Thread nD τ).loc main_arg4) (ix2 g ⟨l.val * 8 + o.val, by omega⟩)) := by
  rw [← dot_perm]
  unfold wholeDot
  refine Finset.sum_congr rfl fun k _ => ?_
  rw [v2_apply, v6_apply, V_main_arg3]

/-- The result buffer over the arguments: of word column `l` and output channel `o`, `silu` of the two projections. -/
theorem out_apply (c : Dev nD) (b : Fin 2) (r : Fin 128) (l : Fin 2368) (o : Fin 8) :
    Pipeline.afterTail₀ cfgs (dats m) 0 (V0 m) [hostOps1] c main_v9 (ix3 b r ⟨l.val * 8 + o.val, by omega⟩)
      = silu (dot (shift o) (fun k => m ((c : Thread nD τ).loc main_arg0) (ix3 b r k)) (fun k => m ((c : Thread nD τ).loc main_arg1) (ix2 k l))
            (fun g => m ((c : Thread nD τ).loc main_arg2) (ix2 g ⟨l.val * 8 + o.val, by omega⟩)))
          (dot (shift o) (fun k => m ((c : Thread nD τ).loc main_arg0) (ix3 b r k)) (fun k => m ((c : Thread nD τ).loc main_arg3) (ix2 k l))
            (fun g => m ((c : Thread nD τ).loc main_arg4) (ix2 g ⟨l.val * 8 + o.val, by omega⟩))) := by
  rw [v9_apply, ← gate_eq, ← up_eq]
  rfl

/-! ## The run's post at the claims' buffers -/

/-- The ideal kernel runs, its result is `afterTail₀`'s, its arguments end unchanged and every counter ends at zero. -/
theorem run_value : θ_run defs (onTc (τ := τ) (main (F := Ideal))) ⟨m, fun _ => 0, ρ⟩ (fun r => (∀ c : Dev nD,
      r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c).2 main_v9 (Pipeline.mem_restRefs_of main_v9 (by decide) (by decide)),
      ((h.1 c).2 main_arg0 (Pipeline.mem_restRefs_of main_arg0 (by decide) (by decide))).trans (W_main_arg0 m (dats m) c),
      ((h.1 c).1 1).trans (((dats m 0 c).arrAt_in 1 rfl _).trans ((A_eq m c 1).trans (V_main_arg1 m c))),
      ((h.1 c).2 main_arg2 (Pipeline.mem_restRefs_of main_arg2 (by decide) (by decide))).trans (W_main_arg2 m (dats m) c),
      ((h.1 c).1 3).trans (((dats m 0 c).arrAt_in 3 rfl _).trans ((A_eq m c 3).trans (V_main_arg3 m c))),
      ((h.1 c).2 main_arg4 (Pipeline.mem_restRefs_of main_arg4 (by decide) (by decide))).trans (W_main_arg4 m (dats m) c)⟩, h.2⟩)
    (run_main m ρ)

end Cert.KernelIdeal.Proof

end
-- ==== Proof.RefValue.lean ====
/-
  The reference's result read at an index, over the extended reals: at word column `l` and output channel `o`, `silu` of the
  two projections. The generated run states it as one term; here the term is named in pieces (`col`, one channel's
  projection; `proj`, the eight side by side) and each is read at an index.
-/
module

public import proofs.«01_k».proof.Proof.Dot
public import proofs.«01_k».proof.Proof.Gen.ReferenceIdeal.Run
public import Idealize.ShloMosaic.Lib.Pointwise

@[expose] public section

set_option maxRecDepth 16384

noncomputable section

namespace Cert.ReferenceIdeal.Proof

open Cert.ReferenceIdeal Cert.ReferenceIdeal.Gen Cert.Nibble
open Idealize.ShloMosaic Idealize.ShloMosaic.TcCoe Idealize.ShloMosaic.StableHlo Idealize.SL.Sem

/-- One output channel's projection: nibble `n` of the code words, dequantised with the channel's scales. -/
def col (n : BitVec 32) (w : IVec S3584x2368 32) (x : FVec Ideal S2x128x3584 .bf16) (sc : FVec Ideal S28x2368 .bf16) : FVec Ideal S2x128x2368x1 .f32 :=
  broadcastInDim S2x128x2368x1 ![0, 1, 2] bcast_S2x128x2368_S2x128x2368x1_0_1_2
    (Host.dotGeneral dot_S2x128x3584_S3584x2368_S2x128x2368_2_0_01_1_n_n none x
      (mulf
        (subf
          (sitofp FTy.bf16
            (andi
              (Host.shrsi w (broadcastInDim S3584x2368 ![] bcast_S_S3584x2368 (constantI S_ 32 n)))
              (broadcastInDim S3584x2368 ![] bcast_S_S3584x2368 (constantI S_ 32 15#32))))
          (broadcastInDim S3584x2368 ![] bcast_S_S3584x2368 (constant S_ FTy.bf16 16640#16)))
        (shapeCast S3584x2368
          (broadcastInDim S28x128x2368 ![0, 2] bcast_S28x2368_S28x128x2368_0_2 sc)
          shapeCasts_S28x128x2368_S3584x2368)))

/-- The eight channels' projections, the channel the last axis. -/
def proj (w : IVec S3584x2368 32) (x : FVec Ideal S2x128x3584 .bf16) (s : FVec Ideal S28x18944 .bf16) : FVec Ideal S2x128x2368x8 .f32 :=
  concatenate S2x128x2368x8 3 [⟨S2x128x2368x1, col 0#32 w x (Host.slice S28x2368 ![0, 0] ![1, 8] s slicesBy_S28x18944_S28x2368_0s1_0s8)⟩, ⟨S2x128x2368x1, col 16#32 w x (Host.slice S28x2368 ![0, 1] ![1, 8] s slicesBy_S28x18944_S28x2368_0s1_1s8)⟩, ⟨S2x128x2368x1, col 4#32 w x (Host.slice S28x2368 ![0, 2] ![1, 8] s slicesBy_S28x18944_S28x2368_0s1_2s8)⟩, ⟨S2x128x2368x1, col 20#32 w x (Host.slice S28x2368 ![0, 3] ![1, 8] s slicesBy_S28x18944_S28x2368_0s1_3s8)⟩, ⟨S2x128x2368x1, col 8#32 w x (Host.slice S28x2368 ![0, 4] ![1, 8] s slicesBy_S28x18944_S28x2368_0s1_4s8)⟩, ⟨S2x128x2368x1, col 24#32 w x (Host.slice S28x2368 ![0, 5] ![1, 8] s slicesBy_S28x18944_S28x2368_0s1_5s8)⟩, ⟨S2x128x2368x1, col 12#32 w x (Host.slice S28x2368 ![0, 6] ![1, 8] s slicesBy_S28x18944_S28x2368_0s1_6s8)⟩, ⟨S2x128x2368x1, col 28#32 w x (Host.slice S28x2368 ![0, 7] ![1, 8] s slicesBy_S28x18944_S28x2368_0s1_7s8)⟩] concatenates_S2x128x2368x1_S2x128x2368x1_S2x128x2368x1_S2x128x2368x1_S2x128x2368x1_S2x128x2368x1_S2x128x2368x1_S2x128x2368x1_S2x128x2368x8_d3

theorem col_apply (n : BitVec 32) (hn : n.toNat < 32) (w : IVec S3584x2368 32) (x : FVec Ideal S2x128x3584 .bf16) (sc : FVec Ideal S28x2368 .bf16)
    (b : Fin 2) (r : Fin 128) (l : Fin 2368) :
    col n w x sc (ix4 b r l 0) = dot n (fun k => x (ix3 b r k)) (fun k => w (ix2 k l)) (fun g => sc (ix2 g l)) := by
  pointwise [col]
  unfold dot grp
  refine Finset.sum_congr rfl fun k _ => ?_
  rw [weight_host n _ hn]

theorem proj_apply (w : IVec S3584x2368 32) (x : FVec Ideal S2x128x3584 .bf16) (s : FVec Ideal S28x18944 .bf16)
    (b : Fin 2) (r : Fin 128) (l : Fin 2368) (o : Fin 8) :
    proj w x s (ix4 b r l o) = dot (shift o) (fun k => x (ix3 b r k)) (fun k => w (ix2 k l)) (fun g => s (ix2 g ⟨l.val * 8 + o.val, by omega⟩)) := by
  match o with
  | ⟨0, _⟩ =>
    pointwise [proj]
    refine (col_apply 0#32 (by decide) w x _ b r l).trans (congrArg (dot 0#32 _ _) (funext fun g => ?_))
    pointwise
    exact congrArg s (congrArg (ix2 g) (Fin.ext (show 8 * l.val = l.val * 8 by omega)))
  | ⟨1, _⟩ =>
    pointwise [proj]
    refine (col_apply 16#32 (by decide) w x _ b r l).trans (congrArg (dot 16#32 _ _) (funext fun g => ?_))
    pointwise
    exact congrArg s (congrArg (ix2 g) (Fin.ext (show 1 + 8 * l.val = l.val * 8 + 1 by omega)))
  | ⟨2, _⟩ =>
    pointwise [proj]
    refine (col_apply 4#32 (by decide) w x _ b r l).trans (congrArg (dot 4#32 _ _) (funext fun g => ?_))
    pointwise
    exact congrArg s (congrArg (ix2 g) (Fin.ext (show 2 + 8 * l.val = l.val * 8 + 2 by omega)))
  | ⟨3, _⟩ =>
    pointwise [proj]
    refine (col_apply 20#32 (by decide) w x _ b r l).trans (congrArg (dot 20#32 _ _) (funext fun g => ?_))
    pointwise
    exact congrArg s (congrArg (ix2 g) (Fin.ext (show 3 + 8 * l.val = l.val * 8 + 3 by omega)))
  | ⟨4, _⟩ =>
    pointwise [proj]
    refine (col_apply 8#32 (by decide) w x _ b r l).trans (congrArg (dot 8#32 _ _) (funext fun g => ?_))
    pointwise
    exact congrArg s (congrArg (ix2 g) (Fin.ext (show 4 + 8 * l.val = l.val * 8 + 4 by omega)))
  | ⟨5, _⟩ =>
    pointwise [proj]
    refine (col_apply 24#32 (by decide) w x _ b r l).trans (congrArg (dot 24#32 _ _) (funext fun g => ?_))
    pointwise
    exact congrArg s (congrArg (ix2 g) (Fin.ext (show 5 + 8 * l.val = l.val * 8 + 5 by omega)))
  | ⟨6, _⟩ =>
    pointwise [proj]
    refine (col_apply 12#32 (by decide) w x _ b r l).trans (congrArg (dot 12#32 _ _) (funext fun g => ?_))
    pointwise
    exact congrArg s (congrArg (ix2 g) (Fin.ext (show 6 + 8 * l.val = l.val * 8 + 6 by omega)))
  | ⟨7, _⟩ =>
    pointwise [proj]
    refine (col_apply 28#32 (by decide) w x _ b r l).trans (congrArg (dot 28#32 _ _) (funext fun g => ?_))
    pointwise
    exact congrArg s (congrArg (ix2 g) (Fin.ext (show 7 + 8 * l.val = l.val * 8 + 7 by omega)))

/-- The reference's result, over its arguments. -/
def out (x : FVec Ideal S2x128x3584 .bf16) (wg : IVec S3584x2368 32) (sg : FVec Ideal S28x18944 .bf16) (wu : IVec S3584x2368 32)
    (su : FVec Ideal S28x18944 .bf16) : FVec Ideal S2x128x18944 .bf16 :=
  truncf .bf16 (mulf (mulf (shapeCast S2x128x18944 (proj wg x sg) shapeCasts_S2x128x2368x8_S2x128x18944)
      (Host.divf (broadcastInDim S2x128x18944 ![] bcast_S_S2x128x18944 (constant S_ .f32 0x3F800000#32))
        (addf (broadcastInDim S2x128x18944 ![] bcast_S_S2x128x18944 (constant S_ .f32 0x3F800000#32))
          (Host.exp (Host.negf (shapeCast S2x128x18944 (proj wg x sg) shapeCasts_S2x128x2368x8_S2x128x18944))))))
    (shapeCast S2x128x18944 (proj wu x su) shapeCasts_S2x128x2368x8_S2x128x18944)) bitsLt_bf16_f32

theorem out_apply (x : FVec Ideal S2x128x3584 .bf16) (wg : IVec S3584x2368 32) (sg : FVec Ideal S28x18944 .bf16) (wu : IVec S3584x2368 32)
    (su : FVec Ideal S28x18944 .bf16) (b : Fin 2) (r : Fin 128) (l : Fin 2368) (o : Fin 8) :
    out x wg sg wu su (ix3 b r ⟨l.val * 8 + o.val, by omega⟩)
      = silu (dot (shift o) (fun k => x (ix3 b r k)) (fun k => wg (ix2 k l)) (fun g => sg (ix2 g ⟨l.val * 8 + o.val, by omega⟩)))
          (dot (shift o) (fun k => x (ix3 b r k)) (fun k => wu (ix2 k l)) (fun g => su (ix2 g ⟨l.val * 8 + o.val, by omega⟩))) := by
  rw [← proj_apply, ← proj_apply]
  pointwise [out]
  rfl

/-- The generated run's terms are `proj` of the arguments. -/
theorem gate_eq (V : Valuation τ sig (Elt Ideal)) : Cert.ReferenceIdeal.Value.res_main_v104 V
    = proj (V (Proc.devRef .tc main_arg1)) (V (Proc.devRef .tc main_arg0)) (V (Proc.devRef .tc main_arg2)) := by
  unfold Cert.ReferenceIdeal.Value.res_main_v104 proj col
  rfl

theorem up_eq (V : Valuation τ sig (Elt Ideal)) : Cert.ReferenceIdeal.Value.res_main_v210 V
    = proj (V (Proc.devRef .tc main_arg3)) (V (Proc.devRef .tc main_arg0)) (V (Proc.devRef .tc main_arg4)) := by
  unfold Cert.ReferenceIdeal.Value.res_main_v210 proj col
  rfl

/-- The reference runs, its result is `out` of its arguments, and they end unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v214) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
      unfold Cert.ReferenceIdeal.Value.res_main_v105
      rw [gate_eq, up_eq]
      rfl), (h c).2⟩) (Cert.ReferenceIdeal.Value.run (F := Ideal) m ρ)

end Cert.ReferenceIdeal.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel as printed runs, keeps its arguments and ends with every counter at zero. -/
theorem quiescent_kernel : Cert.quiescent_Kernel (hKernel := Cert.Kernel.Gen.facts) := fun m g _ =>
  Cert.Kernel.Proof.frame m g

/-- So does the ideal kernel. -/
theorem quiescent_ideal : Cert.quiescent_KernelIdeal (hKernelIdeal := Cert.KernelIdeal.Gen.facts) := fun m g _ =>
  (θ_run Cert.KernelIdeal.defs _ _).mono (fun r h => ⟨fun c => (h.1 c).2, h.2⟩) (Cert.KernelIdeal.Proof.run_value m g)

/-- So does the reference; it has no semaphores. -/
theorem quiescent_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Proof.run_value m g)

/-- The two results agree at every index: column `j` of a row is output channel `j % 8` of word column `j / 8`. -/
theorem result_eq (m : (ℓ : Loc Cert.KernelIdeal.nD Cert.KernelIdeal.τ Cert.KernelIdeal.sig) → Buf (Elt Ideal) ℓ) (c : Dev Cert.KernelIdeal.nD) :
    Cert.ReferenceIdeal.Proof.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Pipeline.afterTail₀ Cert.KernelIdeal.cfgs (Cert.KernelIdeal.Proof.dats m) 0 (Cert.KernelIdeal.Gen.V0 m) [Cert.KernelIdeal.Gen.hostOps1] c Cert.KernelIdeal.main_v9 := by
  funext i
  have hb : (i 0).val < 2 := (i 0).isLt
  have hr : (i 1).val < 128 := (i 1).isLt
  have hj : (i 2).val < 18944 := (i 2).isLt
  have hi : i = ix3 (⟨(i 0).val, hb⟩ : Fin 2) (⟨(i 1).val, hr⟩ : Fin 128)
      (⟨(⟨(i 2).val / 8, by omega⟩ : Fin 2368).val * 8 + (⟨(i 2).val % 8, by omega⟩ : Fin 8).val, by
        show (i 2).val / 8 * 8 + (i 2).val % 8 < 18944; omega⟩ : Fin 18944) := by
    funext a
    match a with
    | ⟨0, _⟩ => rfl
    | ⟨1, _⟩ => rfl
    | ⟨2, _⟩ => exact Fin.ext (show (i 2).val = (i 2).val / 8 * 8 + (i 2).val % 8 by omega)
  rw [hi]
  exact (Cert.ReferenceIdeal.Proof.out_apply _ _ _ _ _ _ _ _ _).trans (Cert.KernelIdeal.Proof.out_apply m c _ _ _ _).symm

/-- From equal arguments the ideal kernel and the reference end with equal results. -/
theorem algebraic : Cert.algebraic_KernelIdeal_ReferenceIdeal (hKernelIdeal := Cert.KernelIdeal.Gen.facts) (hReferenceIdeal := Cert.ReferenceIdeal.Gen.facts) :=
  fun m g m' g' _ hm =>
    ⟨fun c => Pipeline.afterTail₀ Cert.KernelIdeal.cfgs (Cert.KernelIdeal.Proof.dats m) 0 (Cert.KernelIdeal.Gen.V0 m) [Cert.KernelIdeal.Gen.hostOps1] c Cert.KernelIdeal.main_v9,
      (θ_run Cert.KernelIdeal.defs _ _).mono (fun r h => h.1) (Cert.KernelIdeal.Proof.run_value m g),
      (θ_run Cert.ReferenceIdeal.defs _ _).mono (fun r h c => ⟨(h c).1.trans (by
          obtain ⟨h0, h1, h2, h3, h4⟩ := hm c
          rw [h0, h1, h2, h3, h4]
          exact result_eq m c), (h c).2⟩) (Cert.ReferenceIdeal.Proof.run_value m' g')⟩

/-- Everything the certificate claims. -/
theorem claim : Cert.Claim := ⟨Cert.Kernel.Gen.facts, Cert.KernelIdeal.Gen.facts, Cert.ReferenceIdeal.Gen.facts,
  quiescent_kernel, quiescent_ideal, quiescent_reference, trivial, algebraic⟩

end Cert.Proof

end
